-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S256x512 : Shape := ⟨2, ![256, 512]⟩
abbrev S2x4x64x512 : Shape := ⟨4, ![2, 4, 64, 512]⟩
abbrev S3x64x512 : Shape := ⟨3, ![3, 64, 512]⟩
abbrev S9x64x512 : Shape := ⟨3, ![9, 64, 512]⟩
abbrev S4x64x512 : Shape := ⟨3, ![4, 64, 512]⟩
abbrev S9 : Shape := ⟨1, ![9]⟩
abbrev S3 : Shape := ⟨1, ![3]⟩
abbrev S_ : Shape := ⟨0, ![]⟩
abbrev S1x1x64x512 : Shape := ⟨4, ![1, 1, 64, 512]⟩
abbrev S1 : Shape := ⟨1, ![1]⟩
abbrev S64x1024 : Shape := ⟨2, ![64, 1024]⟩
abbrev S1x64x512 : Shape := ⟨3, ![1, 64, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S256x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S256x512, .f32⟩
  | .local _ .vmem, ⟨8, _⟩ => ⟨S2x4x64x512, .f32⟩
  | .local _ .vmem, ⟨9, _⟩ => ⟨S3x64x512, .f32⟩
  | .local _ .vmem, ⟨10, _⟩ => ⟨S9x64x512, .f32⟩
  | .local _ .vmem, ⟨11, _⟩ => ⟨S4x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v21 : BitVec 32 := Scalar.addi v2 c1_i32_17
  let c4_i32_18 : BitVec 32 := 4#32
  let v22 : BitVec 32 := Scalar.remsi v21 c4_i32_18
  let c1_i32_23 : BitVec 32 := 1#32
  let v23 : BitVec 32 := Scalar.muli v22 c1_i32_23
  let v24 : BitVec 32 := Scalar.addi c0_i32_24 v23
  v24.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_27 : BitVec 32 := 2#32
  let v31 : BitVec 32 := Scalar.addi v2 c2_i32_27
  let c4_i32_28 : BitVec 32 := 4#32
  let v32 : BitVec 32 := Scalar.remsi v31 c4_i32_28
  let c1_i32_33 : BitVec 32 := 1#32
  let v33 : BitVec 32 := Scalar.muli v32 c1_i32_33
  let v34 : BitVec 32 := Scalar.addi c0_i32_34 v33
  v34.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v41 : BitVec 32 := Scalar.addi v2 c3_i32_37
  let c4_i32_38 : BitVec 32 := 4#32
  let v42 : BitVec 32 := Scalar.remsi v41 c4_i32_38
  let c1_i32_43 : BitVec 32 := 1#32
  let v43 : BitVec 32 := Scalar.muli v42 c1_i32_43
  let v44 : BitVec 32 := Scalar.addi c0_i32_44 v43
  v44.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_68 : BitVec 32 := 1#32
  let v70 : BitVec 32 := Scalar.addi v2 c1_i32_68
  let c0_i32_69 : BitVec 32 := 0#32
  let v71 : BitVec 32 := Scalar.addi v70 c0_i32_69
  let c4_i32_70 : BitVec 32 := 4#32
  let v72 : BitVec 32 := Scalar.remsi v71 c4_i32_70
  let c1_i32_75 : BitVec 32 := 1#32
  let v73 : BitVec 32 := Scalar.muli v72 c1_i32_75
  let v74 : BitVec 32 := Scalar.addi c0_i32_76 v73
  v74.toNat
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_102 : BitVec 32 := 1#32
  let v102 : BitVec 32 := Scalar.addi v2 c1_i32_102
  let c1_i32_103 : BitVec 32 := 1#32
  let v103 : BitVec 32 := Scalar.addi v102 c1_i32_103
  let c4_i32_104 : BitVec 32 := 4#32
  let v104 : BitVec 32 := Scalar.remsi v103 c4_i32_104
  let c1_i32_109 : BitVec 32 := 1#32
  let v105 : BitVec 32 := Scalar.muli v104 c1_i32_109
  let v106 : BitVec 32 := Scalar.addi c0_i32_110 v105
  v106.toNat
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_136 : BitVec 32 := 1#32
  let v134 : BitVec 32 := Scalar.addi v2 c1_i32_136
  let c2_i32_137 : BitVec 32 := 2#32
  let v135 : BitVec 32 := Scalar.addi v134 c2_i32_137
  let c4_i32_138 : BitVec 32 := 4#32
  let v136 : BitVec 32 := Scalar.remsi v135 c4_i32_138
  let c1_i32_143 : BitVec 32 := 1#32
  let v137 : BitVec 32 := Scalar.muli v136 c1_i32_143
  let v138 : BitVec 32 := Scalar.addi c0_i32_144 v137
  v138.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_194 : BitVec 32 := 1#32
  let v187 : BitVec 32 := Scalar.addi v2 c1_i32_194
  let c4_i32_195 : BitVec 32 := 4#32
  let v188 : BitVec 32 := Scalar.remsi v187 c4_i32_195
  let c1_i32_201 : BitVec 32 := 1#32
  let v189 : BitVec 32 := Scalar.muli v188 c1_i32_201
  let v190 : BitVec 32 := Scalar.addi c0_i32_202 v189
  v190.toNat
def k0_dev11 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_207 : BitVec 32 := 2#32
  let v199 : BitVec 32 := Scalar.addi v2 c2_i32_207
  let c4_i32_208 : BitVec 32 := 4#32
  let v200 : BitVec 32 := Scalar.remsi v199 c4_i32_208
  let c1_i32_215 : BitVec 32 := 1#32
  let v201 : BitVec 32 := Scalar.muli v200 c1_i32_215
  let v202 : BitVec 32 := Scalar.addi c0_i32_216 v201
  v202.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_221 : BitVec 32 := 3#32
  let v211 : BitVec 32 := Scalar.addi v2 c3_i32_221
  let c4_i32_222 : BitVec 32 := 4#32
  let v212 : BitVec 32 := Scalar.remsi v211 c4_i32_222
  let c1_i32_229 : BitVec 32 := 1#32
  let v213 : BitVec 32 := Scalar.muli v212 c1_i32_229
  let v214 : BitVec 32 := Scalar.addi c0_i32_230 v213
  v214.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_257 : BitVec 32 := 1#32
  let v242 : BitVec 32 := Scalar.addi v2 c1_i32_257
  let c0_i32_258 : BitVec 32 := 0#32
  let v243 : BitVec 32 := Scalar.addi v242 c0_i32_258
  let c4_i32_259 : BitVec 32 := 4#32
  let v244 : BitVec 32 := Scalar.remsi v243 c4_i32_259
  let c1_i32_264 : BitVec 32 := 1#32
  let v245 : BitVec 32 := Scalar.muli v244 c1_i32_264
  let v246 : BitVec 32 := Scalar.addi c0_i32_265 v245
  v246.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_291 : BitVec 32 := 1#32
  let v274 : BitVec 32 := Scalar.addi v2 c1_i32_291
  let c1_i32_292 : BitVec 32 := 1#32
  let v275 : BitVec 32 := Scalar.addi v274 c1_i32_292
  let c4_i32_293 : BitVec 32 := 4#32
  let v276 : BitVec 32 := Scalar.remsi v275 c4_i32_293
  let c1_i32_298 : BitVec 32 := 1#32
  let v277 : BitVec 32 := Scalar.muli v276 c1_i32_298
  let v278 : BitVec 32 := Scalar.addi c0_i32_299 v277
  v278.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_325 : BitVec 32 := 1#32
  let v306 : BitVec 32 := Scalar.addi v2 c1_i32_325
  let c2_i32_326 : BitVec 32 := 2#32
  let v307 : BitVec 32 := Scalar.addi v306 c2_i32_326
  let c4_i32_327 : BitVec 32 := 4#32
  let v308 : BitVec 32 := Scalar.remsi v307 c4_i32_327
  let c1_i32_332 : BitVec 32 := 1#32
  let v309 : BitVec 32 := Scalar.muli v308 c1_i32_332
  let v310 : BitVec 32 := Scalar.addi c0_i32_333 v309
  v310.toNat
def k0_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_383 : BitVec 32 := 1#32
  let v359 : BitVec 32 := Scalar.addi v2 c1_i32_383
  let c4_i32_384 : BitVec 32 := 4#32
  let v360 : BitVec 32 := Scalar.remsi v359 c4_i32_384
  let c1_i32_390 : BitVec 32 := 1#32
  let v361 : BitVec 32 := Scalar.muli v360 c1_i32_390
  let v362 : BitVec 32 := Scalar.addi c0_i32_391 v361
  v362.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_396 : BitVec 32 := 2#32
  let v371 : BitVec 32 := Scalar.addi v2 c2_i32_396
  let c4_i32_397 : BitVec 32 := 4#32
  let v372 : BitVec 32 := Scalar.remsi v371 c4_i32_397
  let c1_i32_403 : BitVec 32 := 1#32
  let v373 : BitVec 32 := Scalar.muli v372 c1_i32_403
  let v374 : BitVec 32 := Scalar.addi c0_i32_404 v373
  v374.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_409 : BitVec 32 := 3#32
  let v383 : BitVec 32 := Scalar.addi v2 c3_i32_409
  let c4_i32_410 : BitVec 32 := 4#32
  let v384 : BitVec 32 := Scalar.remsi v383 c4_i32_410
  let c1_i32_416 : BitVec 32 := 1#32
  let v385 : BitVec 32 := Scalar.muli v384 c1_i32_416
  let v386 : BitVec 32 := Scalar.addi c0_i32_417 v385
  v386.toNat
def k0_dev19 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_443 : BitVec 32 := 1#32
  let v414 : BitVec 32 := Scalar.addi v2 c1_i32_443
  let c0_i32_444 : BitVec 32 := 0#32
  let v415 : BitVec 32 := Scalar.addi v414 c0_i32_444
  let c4_i32_445 : BitVec 32 := 4#32
  let v416 : BitVec 32 := Scalar.remsi v415 c4_i32_445
  let c1_i32_450 : BitVec 32 := 1#32
  let v417 : BitVec 32 := Scalar.muli v416 c1_i32_450
  let v418 : BitVec 32 := Scalar.addi c0_i32_451 v417
  v418.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_477 : BitVec 32 := 1#32
  let v446 : BitVec 32 := Scalar.addi v2 c1_i32_477
  let c1_i32_478 : BitVec 32 := 1#32
  let v447 : BitVec 32 := Scalar.addi v446 c1_i32_478
  let c4_i32_479 : BitVec 32 := 4#32
  let v448 : BitVec 32 := Scalar.remsi v447 c4_i32_479
  let c1_i32_484 : BitVec 32 := 1#32
  let v449 : BitVec 32 := Scalar.muli v448 c1_i32_484
  let v450 : BitVec 32 := Scalar.addi c0_i32_485 v449
  v450.toNat
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_511 : BitVec 32 := 1#32
  let v478 : BitVec 32 := Scalar.addi v2 c1_i32_511
  let c2_i32_512 : BitVec 32 := 2#32
  let v479 : BitVec 32 := Scalar.addi v478 c2_i32_512
  let c4_i32_513 : BitVec 32 := 4#32
  let v480 : BitVec 32 := Scalar.remsi v479 c4_i32_513
  let c1_i32_518 : BitVec 32 := 1#32
  let v481 : BitVec 32 := Scalar.muli v480 c1_i32_518
  let v482 : BitVec 32 := Scalar.addi c0_i32_519 v481
  v482.toNat
def k0_dev22 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_568 : BitVec 32 := 1#32
  let v531 : BitVec 32 := Scalar.addi v2 c1_i32_568
  let c4_i32_569 : BitVec 32 := 4#32
  let v532 : BitVec 32 := Scalar.remsi v531 c4_i32_569
  let c1_i32_574 : BitVec 32 := 1#32
  let v533 : BitVec 32 := Scalar.muli v532 c1_i32_574
  let v534 : BitVec 32 := Scalar.addi c0_i32_575 v533
  v534.toNat
def k0_dev23 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_580 : BitVec 32 := 2#32
  let v543 : BitVec 32 := Scalar.addi v2 c2_i32_580
  let c4_i32_581 : BitVec 32 := 4#32
  let v544 : BitVec 32 := Scalar.remsi v543 c4_i32_581
  let c1_i32_586 : BitVec 32 := 1#32
  let v545 : BitVec 32 := Scalar.muli v544 c1_i32_586
  let v546 : BitVec 32 := Scalar.addi c0_i32_587 v545
  v546.toNat
def k0_dev24 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_592 : BitVec 32 := 3#32
  let v555 : BitVec 32 := Scalar.addi v2 c3_i32_592
  let c4_i32_593 : BitVec 32 := 4#32
  let v556 : BitVec 32 := Scalar.remsi v555 c4_i32_593
  let c1_i32_598 : BitVec 32 := 1#32
  let v557 : BitVec 32 := Scalar.muli v556 c1_i32_598
  let v558 : BitVec 32 := Scalar.addi c0_i32_599 v557
  v558.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v567 : BitVec 32 := Scalar.muli v2 c64_i32
  let v568 : Index := Scalar.indexCast v567
  let c0_604 : Index := 0#32
  ![v568.toNat, 0]
def k0_off2 (d0 : Dev nD) (c1_i32_612 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v576 : BitVec 32 := Scalar.addi v2 c1_i32_612
  let c4_i32_613 : BitVec 32 := 4#32
  let v577 : BitVec 32 := Scalar.remsi v576 c4_i32_613
  let c64_i32_617 : BitVec 32 := 64#32
  let v580 : BitVec 32 := Scalar.muli v577 c64_i32_617
  let v581 : Index := Scalar.indexCast v580
  let c0_618 : Index := 0#32
  ![v581.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x512 : Shape := ⟨2, ![256, 512]⟩
abbrev S512x4096 : Shape := ⟨2, ![512, 4096]⟩
abbrev S4096x512 : Shape := ⟨2, ![4096, 512]⟩
abbrev S256x4096 : Shape := ⟨2, ![256, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x512, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S256x512, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Prog.lean ====
/-
The kernel body as a program written by stage: the entry handshake, and per layer the gathers, the three partial
products sent to their owners, and the sum. `body_eq` says the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.Sem

variable {F : FTy → Type} [FloatOps F]

abbrev P (α : Type) := Prog (TpuEff nD τ sig (Elt F) Λ₀ .tc) α
/-- A memref of one 64-row block. -/
abbrev Blk := Memref sig .tc .vmem S64x512 .f32

/-! ## The stages and transfers -/

/-- The seven stages of remote copies: gather of layer `l`, partial sums of layer `l`, and the output. -/
abbrev Stg := Fin 3 ⊕ Fin 3 ⊕ Unit
abbrev ag (l : Fin 3) : Stg := .inl l
abbrev rs (l : Fin 3) : Stg := .inr (.inl l)
abbrev ou : Stg := .inr (.inr ())
/-- A transfer: its stage and which of the three it is. -/
abbrev T := Stg × Fin 3

/-! ## The memrefs -/

abbrev xM : Blk := Memref.whole cc0_stg0_0
abbrev outM : Memref sig .tc .vmem S256x512 .f32 := Memref.whole cc0_stg7_0
abbrev wiM (l : Fin 3) : Memref sig .tc .vmem S512x1024 .f32 :=
  match l with | 0 => Memref.whole cc0_stg1_0 | 1 => Memref.whole cc0_stg3_0 | 2 => Memref.whole cc0_stg5_0
abbrev woM (l : Fin 3) : Memref sig .tc .vmem S1024x512 .f32 :=
  match l with | 0 => Memref.whole cc0_stg2_0 | 1 => Memref.whole cc0_stg4_0 | 2 => Memref.whole cc0_stg6_0
/-- The gather buffers (two generations of four blocks), the landing buffers of the partials, the partials sent, and
    the output's landing buffers. -/
abbrev xbM : Memref sig .tc .vmem S2x4x64x512 .f32 := Memref.whole cc0_scratch0
abbrev rbM : Memref sig .tc .vmem S3x64x512 .f32 := Memref.whole cc0_scratch1
abbrev pbM : Memref sig .tc .vmem S9x64x512 .f32 := Memref.whole cc0_scratch2
abbrev obM : Memref sig .tc .vmem S4x64x512 .f32 := Memref.whole cc0_scratch3

theorem inb4 (p : Fin 2) (s : Fin 4) : ∀ a : Fin 4, (![p.val, s.val, 0, 0] : Fin 4 → ℕ) a + S1x1x64x512.size a ≤ S2x4x64x512.size a := by
  revert p s; decide
theorem inb3 (n : ℕ) (j : Fin n) : ∀ a : Fin 3, (![j.val, 0, 0] : Fin 3 → ℕ) a + S1x64x512.size a ≤ (![n, 64, 512] : Fin 3 → ℕ) a := by
  intro a; have := j.isLt
  fin_cases a
  · show j.val + 1 ≤ n; omega
  · exact Nat.le_refl _
  · exact Nat.le_refl _
theorem inb1 (n : ℕ) (j : Fin n) : ∀ a : Fin 1, (![j.val] : Fin 1 → ℕ) a + S1.size a ≤ (![n] : Fin 1 → ℕ) a := by
  intro a; have := j.isLt
  fin_cases a
  show j.val + 1 ≤ n; omega

abbrev xR (p : Fin 2) (s : Fin 4) : Rect S2x4x64x512 := Rect.unit (s := S2x4x64x512) ![p.val, s.val, 0, 0] S1x1x64x512.size (inb4 p s)
abbrev rR (j : Fin 3) : Rect S3x64x512 := Rect.unit (s := S3x64x512) ![j.val, 0, 0] S1x64x512.size (inb3 3 j)
abbrev pR (j : Fin 9) : Rect S9x64x512 := Rect.unit (s := S9x64x512) ![j.val, 0, 0] S1x64x512.size (inb3 9 j)
abbrev oR (j : Fin 4) : Rect S4x64x512 := Rect.unit (s := S4x64x512) ![j.val, 0, 0] S1x64x512.size (inb3 4 j)

/-- One block of each scratch buffer. -/
def xS (p : Fin 2) (s : Fin 4) : Blk := (xbM.slice (xR p s) (fun _ => rfl)).squeeze S64x512 squeezes_S1x1x64x512_S64x512
def rS (j : Fin 3) : Blk := (rbM.slice (rR j) (fun _ => rfl)).squeeze S64x512 squeezes_S1x64x512_S64x512
def pS (j : Fin 9) : Blk := (pbM.slice (pR j) (fun _ => rfl)).squeeze S64x512 squeezes_S1x64x512_S64x512
def oS (j : Fin 4) : Blk := (obM.slice (oR j) (fun _ => rfl)).squeeze S64x512 squeezes_S1x64x512_S64x512

/-- Which generation of the gather buffer layer `l` uses. -/
def par (l : Fin 3) : Fin 2 := match l with | 0 => 0 | 1 => 1 | 2 => 0
/-- The partial of layer `l` for slot `s`. -/
def pj (l s : Fin 3) : Fin 9 := ⟨3 * l.val + s.val, by omega⟩
def r3 (s : Fin 3) : Fin 4 := ⟨3 - s.val, by omega⟩

def agSrc (l : Fin 3) : Blk := match l with | 0 => xM | 1 => xS 1 3 | 2 => xS 0 3
def srcM (t : T) : Blk := match t with | (.inl l, _) => agSrc l | (.inr (.inl l), s) => pS (pj l s) | (.inr (.inr _), _) => oS 0
def dstM (t : T) : Blk := match t with | (.inl l, s) => xS (par l) s.castSucc | (.inr (.inl _), s) => rS s | (.inr (.inr _), s) => oS (r3 s)

def sem9 (A : DmaSems sig S9) (j : Fin 9) : DmaSem sig := ((A.slice (Rect.unit (s := S9) ![j.val] S1.size (inb1 9 j))).squeeze S_ squeezes_S1_S_).sem
def sem3 (A : DmaSems sig S3) (j : Fin 3) : DmaSem sig := ((A.slice (Rect.unit (s := S3) ![j.val] S1.size (inb1 3 j))).squeeze S_ squeezes_S1_S_).sem
def sndS (t : T) : DmaSem sig := match t with
  | (.inl l, s) => sem9 cc0_scratch4 (pj l s) | (.inr (.inl l), s) => sem9 cc0_scratch6 (pj l s) | (.inr (.inr _), s) => sem3 cc0_scratch8 s
def rcvS (t : T) : DmaSem sig := match t with
  | (.inl l, s) => sem9 cc0_scratch5 (pj l s) | (.inr (.inl l), s) => sem9 cc0_scratch7 (pj l s) | (.inr (.inr _), s) => sem3 cc0_scratch9 s

theorem xS_exact (p s) : (xS p s).view.WordExact := (View.wordExact_bits rfl).reshape _ _
theorem rS_exact (j) : (rS j).view.WordExact := (View.wordExact_bits rfl).reshape _ _
theorem pS_exact (j) : (pS j).view.WordExact := (View.wordExact_bits rfl).reshape _ _
theorem oS_exact (j) : (oS j).view.WordExact := (View.wordExact_bits rfl).reshape _ _
theorem xM_exact : xM.view.WordExact := (Memref.isWhole_whole _).wordExact
theorem src_exact (t : T) : (srcM t).view.WordExact := by
  rcases t with ⟨l | l | l, s⟩
  · fin_cases l
    · exact xM_exact
    · exact xS_exact _ _
    · exact xS_exact _ _
  · exact pS_exact _
  · exact oS_exact _
theorem dst_exact (t : T) : (dstM t).view.WordExact := by
  rcases t with ⟨l | l | l, s⟩
  · exact xS_exact _ _
  · exact rS_exact _
  · exact oS_exact _
theorem dst_noSc (t : T) : (dstM t).view.ref.isScScratch = false := by
  rcases t with ⟨l | l | l, s⟩ <;> rfl

/-! ## The statements -/

/-- The remote copy of transfer `t` to device `n`. -/
def send {α : Type} (t : T) (n : Dev nD) (k : P (F := F) α) : P (F := F) α :=
  .op (.enqueueDma (srcM t) (.remote (Dev.tc n : Thread nD τ) (dstM t) (.dma (sndS t)) (dst_noSc t)) (.dma (rcvS t)) (src_exact t) (dst_exact t)
    ⟨⟨rfl, Or.inl rfl⟩, trivial⟩) fun _ => k
/-- The wait for transfer `t`'s arrival, and the wait for its source to be free. -/
def recv {α : Type} (t : T) (k : P (F := F) α) : P (F := F) α :=
  .op (.waitDma2 (rcvS t) xM (dstM t) xM_exact (dst_exact t)) fun _ => k
def sent {α : Type} (t : T) (k : P (F := F) α) : P (F := F) α :=
  .op (.waitDma2 (sndS t) (dstM t) (srcM t) (dst_exact t) (src_exact t)) fun _ => k

def ldX {α : Type} (p : Fin 2) (s : Fin 4) (k : Vec F S1x1x64x512 .f32 → P (F := F) α) : P (F := F) α :=
  .op (.load xbM (xR p s).toLoadRect (View.loadsAt_vmem h_S1x1x64x512)) k
def stX {α : Type} (p : Fin 2) (s : Fin 4) (v : FVec F S1x1x64x512 .f32) (k : P (F := F) α) : P (F := F) α :=
  ldX p s fun _ => .op (.store xbM (xR p s) v Finset.univ (View.stores_vmem_bits_univ h_S1x1x64x512 rfl) (.inl rfl)) fun _ => k
def ldR {α : Type} (j : Fin 3) (k : Vec F S1x64x512 .f32 → P (F := F) α) : P (F := F) α :=
  .op (.load rbM (rR j).toLoadRect (View.loadsAt_vmem h_S1x64x512)) k
def stP {α : Type} (j : Fin 9) (v : FVec F S1x64x512 .f32) (k : P (F := F) α) : P (F := F) α :=
  .op (.load pbM (pR j).toLoadRect (View.loadsAt_vmem h_S1x64x512)) fun _ =>
    .op (.store pbM (pR j) v Finset.univ (View.stores_vmem_bits_univ h_S1x64x512 rfl) (.inl rfl)) fun _ => k
def ldO {α : Type} (j : Fin 4) (k : Vec F S1x64x512 .f32 → P (F := F) α) : P (F := F) α :=
  .op (.load obM (oR j).toLoadRect (View.loadsAt_vmem h_S1x64x512)) k
def stO {α : Type} (j : Fin 4) (v : FVec F S1x64x512 .f32) (k : P (F := F) α) : P (F := F) α :=
  ldO j fun _ => .op (.store obM (oR j) v Finset.univ (View.stores_vmem_bits_univ h_S1x64x512 rfl) (.inl rfl)) fun _ => k
def ldWi {α : Type} (l : Fin 3) (k : Vec F S512x1024 .f32 → P (F := F) α) : P (F := F) α :=
  .op (.load (wiM l) (Rect.unit (s := S512x1024) ![0, 0] S512x1024.size inb_S512x1024_S512x1024_0_0).toLoadRect (View.loadsAt_vmem h_S512x1024)) k
def ldWo {α : Type} (l : Fin 3) (k : Vec F S1024x512 .f32 → P (F := F) α) : P (F := F) α :=
  .op (.load (woM l) (Rect.unit (s := S1024x512) ![0, 0] S1024x512.size inb_S1024x512_S1024x512_0_0).toLoadRect (View.loadsAt_vmem h_S1024x512)) k
/-- The output's rows at offset `off`. -/
def stOut {α : Type} (off : Fin 2 → ℕ) (inb : ∀ a, off a + S64x512.size a ≤ S256x512.size a) (v : FVec F S64x512 .f32) (k : P (F := F) α) : P (F := F) α :=
  .op (.load outM (Rect.unit (s := S256x512) off S64x512.size inb).toLoadRect (View.loadsAt_vmem h_S64x512)) fun _ =>
    .op (.store outM (Rect.unit (s := S256x512) off S64x512.size inb) v Finset.univ (View.stores_vmem_bits_univ h_S64x512 rfl) (.inl rfl)) fun _ => k

/-- One gathered block: its partial product, sent to the block's owner. -/
def slotStep {α : Type} (l s : Fin 3) (n : Dev nD) (k : P (F := F) α) : P (F := F) α :=
  recv (ag l, s) <| ldX (par l) s.castSucc fun v => ldWi l fun w => ldWo l fun u => stP (pj l s) (k0_pay2 v w u) <| send (rs l, s) n k

/-- A layer, up to the own partial product and the three that arrived. -/
def layer {α : Type} (l : Fin 3) (n : Fin 3 → Dev nD)
    (k : FVec F S64x512 .f32 → Vec F S1x64x512 .f32 → Vec F S1x64x512 .f32 → Vec F S1x64x512 .f32 → P (F := F) α) : P (F := F) α :=
  slotStep l 0 (n 0) <| slotStep l 1 (n 1) <| slotStep l 2 (n 2) <|
    ldX (par l) 3 fun v => ldWi l fun w => ldWo l fun u =>
      recv (rs l, 0) <| recv (rs l, 1) <| recv (rs l, 2) <| ldR 0 fun a => ldR 1 fun b => ldR 2 fun d => k (k0_pay5 v w u) a b d

/-- The three gathers of layer `l`. -/
def gather {α : Type} (l : Fin 3) (n : Fin 3 → Dev nD) (k : P (F := F) α) : P (F := F) α :=
  send (ag l, 2) (n 2) <| send (ag l, 1) (n 1) <| send (ag l, 0) (n 0) k

/-- One arrived output block, copied to its rows. -/
def outStep {α : Type} (s : Fin 3) (off : Fin 2 → ℕ) (inb : ∀ a, off a + S64x512.size a ≤ S256x512.size a) (k : P (F := F) α) : P (F := F) α :=
  recv (ou, s) <| ldO (r3 s) fun v => stOut off inb (k0_pay25 v) k

def drain {α : Type} (l : Fin 3) (k : P (F := F) α) : P (F := F) α :=
  sent (ag l, 2) <| sent (ag l, 1) <| sent (ag l, 0) <| sent (rs l, 0) <| sent (rs l, 1) <| sent (rs l, 2) k

abbrev barS : Sem sig := (SemArray.scalar (sig.barrier 0 rfl) : Sems sig S_).sem

/-- The handshake: a signal to each other device, and the wait for the three. -/
def shake (n : Fin 3 → Dev nD) : P (F := F) PUnit := do
  semSignalWord (n 0) barS 1#32
  semSignalWord (n 1) barS 1#32
  semSignalWord (n 2) barS 1#32
  semWaitWord barS 3#32

/-- The devices the body of device `d` addresses at stage `t`, as printed. -/
def tgt (d : Dev nD) (t : Stg) (s : Fin 3) : Dev nD := match t, s with
  | .inl 0, 0 => ⟨k0_dev6 d, k0_dev6_lt d⟩ | .inl 0, 1 => ⟨k0_dev5 d, k0_dev5_lt d⟩ | .inl 0, 2 => ⟨k0_dev4 d, k0_dev4_lt d⟩
  | .inr (.inl 0), 0 => ⟨k0_dev7 d, k0_dev7_lt d⟩ | .inr (.inl 0), 1 => ⟨k0_dev8 d, k0_dev8_lt d⟩ | .inr (.inl 0), 2 => ⟨k0_dev9 d, k0_dev9_lt d⟩
  | .inl 1, 0 => ⟨k0_dev12 d, k0_dev12_lt d⟩ | .inl 1, 1 => ⟨k0_dev11 d, k0_dev11_lt d⟩ | .inl 1, 2 => ⟨k0_dev10 d, k0_dev10_lt d⟩
  | .inr (.inl 1), 0 => ⟨k0_dev13 d, k0_dev13_lt d⟩ | .inr (.inl 1), 1 => ⟨k0_dev14 d, k0_dev14_lt d⟩ | .inr (.inl 1), 2 => ⟨k0_dev15 d, k0_dev15_lt d⟩
  | .inl 2, 0 => ⟨k0_dev18 d, k0_dev18_lt d⟩ | .inl 2, 1 => ⟨k0_dev17 d, k0_dev17_lt d⟩ | .inl 2, 2 => ⟨k0_dev16 d, k0_dev16_lt d⟩
  | .inr (.inl 2), 0 => ⟨k0_dev19 d, k0_dev19_lt d⟩ | .inr (.inl 2), 1 => ⟨k0_dev20 d, k0_dev20_lt d⟩ | .inr (.inl 2), 2 => ⟨k0_dev21 d, k0_dev21_lt d⟩
  | .inr (.inr _), 0 => ⟨k0_dev22 d, k0_dev22_lt d⟩ | .inr (.inr _), 1 => ⟨k0_dev23 d, k0_dev23_lt d⟩ | .inr (.inr _), 2 => ⟨k0_dev24 d, k0_dev24_lt d⟩
def tgtB (d : Dev nD) (j : Fin 3) : Dev nD := match j with
  | 0 => ⟨k0_dev1 d, k0_dev1_lt d⟩ | 1 => ⟨k0_dev2 d, k0_dev2_lt d⟩ | 2 => ⟨k0_dev3 d, k0_dev3_lt d⟩

/-- After the handshake: the own block put in place and gathered, the three layers, the output, the waits on the sends. -/
def rest (d : Dev nD) : P (F := F) PUnit :=
  .op (.load xM (Rect.unit (s := S64x512) ![0, 0] S64x512.size inb_S64x512_S64x512_0_0).toLoadRect (View.loadsAt_vmem h_S64x512)) fun v =>
  stX 0 3 (k0_pay1 v) <| gather 0 (tgt d (ag 0)) <|
  layer 0 (tgt d (rs 0)) fun w a b e => stX 1 3 (k0_pay6 w a b e) <| gather 1 (tgt d (ag 1)) <|
  layer 1 (tgt d (rs 1)) fun w a b e => stX 0 3 (k0_pay6 w a b e) <| gather 2 (tgt d (ag 2)) <|
  layer 2 (tgt d (rs 2)) fun w a b e => stO 0 (k0_pay24 w a b e) <|
  send (ou, 0) (tgt d ou 0) <| send (ou, 1) (tgt d ou 1) <| send (ou, 2) (tgt d ou 2) <|
  stOut (k0_off1 d) (k0_off1_inb d) (k0_pay23 w a b e) <|
  outStep 2 (k0_off2 d 1#32) (k0_off2_inb d 0) <| outStep 1 (k0_off2 d 2#32) (k0_off2_inb d 1) <| outStep 0 (k0_off2 d 3#32) (k0_off2_inb d 2) <|
  drain 0 <| drain 1 <| drain 2 <| sent (ou, 0) <| sent (ou, 1) <| sent (ou, 2) <| .ret ⟨⟩

def body : P (F := F) PUnit := .op .deviceId fun d => shake (tgtB d) >>= fun _ => rest d

set_option maxRecDepth 65536 in
set_option maxHeartbeats 4000000 in
theorem body_eq (t : Fin cfg0.N) : bodyAt0 (F := F) t = body := rfl

end Cert.KernelIdeal.Mlp

end
-- ==== Proof.KernelIdeal.Sched.lean ====
/-
The protocol: who copies what to whom, the cells, one round each, the payloads with their contents, the levels.
-/
module

public import proofs.«01_k».proof.Proof.KernelIdeal.Prog

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the protocol's (three duty names) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Who copies to whom -/

set_option backward.proofsInPublic true in
/-- The device `k` after `c`. -/
def add (c : Dev nD) (k : ℕ) : Dev nD := ⟨(c.val + k) % 4, Nat.mod_lt _ (by decide)⟩

/-- The device transfer `t` of `c` goes to, and the one whose transfer `t` arrives at `c`. -/
def dst (c : Dev nD) (t : T) : Dev nD := match t with | (.inl _, s) => add c (3 - s.val) | (.inr _, s) => add c (1 + s.val)
def frm (c : Dev nD) (t : T) : Dev nD := match t with | (.inl _, s) => add c (1 + s.val) | (.inr _, s) => add c (3 - s.val)

theorem add_add (c : Dev nD) (s : Fin 3) : add (add c (3 - s.val)) (1 + s.val) = c := by revert c s; decide
theorem add_add' (c : Dev nD) (s : Fin 3) : add (add c (1 + s.val)) (3 - s.val) = c := by revert c s; decide
theorem frm_dst (c : Dev nD) (t : T) : frm (dst c t) t = c := by
  rcases t with ⟨l | l, s⟩
  · exact add_add c s
  · exact add_add' c s
theorem dst_frm (c : Dev nD) (t : T) : dst (frm c t) t = c := by
  rcases t with ⟨l | l, s⟩
  · exact add_add' c s
  · exact add_add c s

set_option maxHeartbeats 1000000 in
/-- The printed device chains are these. -/
theorem tgt_eq (c : Dev nD) (i : Stg) (s : Fin 3) : tgt c i s = dst c (i, s) := by
  rcases i with l | l | l
  · fin_cases l <;> fin_cases s
    · exact Fin.ext (k0_dev6_eq c)
    · exact Fin.ext (k0_dev5_eq c)
    · exact Fin.ext (k0_dev4_eq c)
    · exact Fin.ext (k0_dev12_eq c)
    · exact Fin.ext (k0_dev11_eq c)
    · exact Fin.ext (k0_dev10_eq c)
    · exact Fin.ext (k0_dev18_eq c)
    · exact Fin.ext (k0_dev17_eq c)
    · exact Fin.ext (k0_dev16_eq c)
  · fin_cases l <;> fin_cases s
    · exact Fin.ext (k0_dev7_eq c)
    · exact Fin.ext (k0_dev8_eq c)
    · exact Fin.ext (k0_dev9_eq c)
    · exact Fin.ext (k0_dev13_eq c)
    · exact Fin.ext (k0_dev14_eq c)
    · exact Fin.ext (k0_dev15_eq c)
    · exact Fin.ext (k0_dev19_eq c)
    · exact Fin.ext (k0_dev20_eq c)
    · exact Fin.ext (k0_dev21_eq c)
  · fin_cases s
    · exact Fin.ext (k0_dev22_eq c)
    · exact Fin.ext (k0_dev23_eq c)
    · exact Fin.ext (k0_dev24_eq c)
theorem tgtB_eq (c : Dev nD) (j : Fin 3) : tgtB c j = add c (1 + j.val) := by
  fin_cases j
  · exact Fin.ext (k0_dev1_eq c)
  · exact Fin.ext (k0_dev2_eq c)
  · exact Fin.ext (k0_dev3_eq c)

/-! ## The cells -/

/-- The kernel's own semaphores: `false` a source's, `true` an arrival's. -/
abbrev CK := Bool × T
def osem (k : CK) : SemLoc sig := match k with | (false, t) => .dma (sndS t) | (true, t) => .dma (rcvS t)
def csem (k : Unit ⊕ CK) : SemLoc sig := match k with | .inl _ => .reg barS | .inr k => osem k
def kcell (ck : Dev nD × (Unit ⊕ CK)) : GSem nD τ sig := ((ck.1 : Thread nD τ), csem ck.2)

abbrev barCell (c : Dev nD) : GSem nD τ sig := kcell (c, .inl ())
abbrev sndCell (c : Dev nD) (t : T) : GSem nD τ sig := kcell (c, .inr (false, t))
abbrev rcvCell (c : Dev nD) (t : T) : GSem nD τ sig := kcell (c, .inr (true, t))

set_option maxRecDepth 65536 in
theorem ownSemFacts : Pipeline.OwnSemFacts cfg0.spec osem := by decide +kernel
theorem osem_inj : Function.Injective osem := ownSemFacts.inj
theorem osem_ne_bar (k : CK) : osem k ≠ .reg barS := by
  rcases k with ⟨b | b, t⟩ <;> exact fun h => by cases h
theorem csem_inj : Function.Injective csem := fun a b h => by
  rcases a with a | a <;> rcases b with b | b
  · rfl
  · exact absurd h.symm (osem_ne_bar b)
  · exact absurd h (osem_ne_bar a)
  · exact congrArg _ (osem_inj h)
theorem kcell_inj : Function.Injective kcell := fun a b h =>
  Prod.ext (congrArg (fun g : GSem nD τ sig => g.1.1) h) (csem_inj (congrArg Prod.snd h))

open Classical in
/-- Which of the own semaphores `sm` is. -/
def dec (sm : SemLoc sig) : Option CK := if h : ∃ k, osem k = sm then some h.choose else none
theorem dec_osem (k : CK) : dec (osem k) = some k := by
  have h : ∃ k', osem k' = osem k := ⟨k, rfl⟩
  unfold dec
  rw [dif_pos h]
  exact congrArg some (osem_inj h.choose_spec)
theorem dec_stage (w : Fin cfg0.W) (s) : dec (.dma ((cfg0.win w).sem s)) = none := by
  unfold dec
  exact dif_neg fun ⟨k, hk⟩ => ownSemFacts.disj k w s hk

/-- The credit of one block. -/
abbrev N : ℕ := xM.view.dmaCredit
theorem N_pos : 0 < N := View.dmaCredit_pos _ (by decide)
theorem credit_src (t : T) : (srcM t).view.dmaCredit = N := by
  rcases t with ⟨l | l | l, s⟩
  · fin_cases l <;> rfl
  · rfl
  · rfl
theorem credit_dst (t : T) : (dstM t).view.dmaCredit = N := by
  rcases t with ⟨l | l | l, s⟩ <;> rfl

/-! ## The contents -/

abbrev B64 (F : FTy → Type) [FloatOps F] := FVec F S64x512 .f32

def xin (c : Dev nD) : B64 F := (win0_0.blk (0 : Fin 1)).view.read (Elt F) (m ((c : Thread nD τ).loc main_arg0))
def wi (l : Fin 3) (c : Dev nD) : FVec F S512x1024 .f32 := match l with
  | 0 => (win0_1.blk (0 : Fin 1)).view.read (Elt F) (m ((c : Thread nD τ).loc main_arg1))
  | 1 => (win0_3.blk (0 : Fin 1)).view.read (Elt F) (m ((c : Thread nD τ).loc main_arg2))
  | 2 => (win0_5.blk (0 : Fin 1)).view.read (Elt F) (m ((c : Thread nD τ).loc main_arg3))
def wo (l : Fin 3) (c : Dev nD) : FVec F S1024x512 .f32 := match l with
  | 0 => (win0_2.blk (0 : Fin 1)).view.read (Elt F) (m ((c : Thread nD τ).loc main_arg4))
  | 1 => (win0_4.blk (0 : Fin 1)).view.read (Elt F) (m ((c : Thread nD τ).loc main_arg5))
  | 2 => (win0_6.blk (0 : Fin 1)).view.read (Elt F) (m ((c : Thread nD τ).loc main_arg6))

/-- A block under one device's weights: its partial product. -/
def pv (X : B64 F) (w : FVec F S512x1024 .f32) (u : FVec F S1024x512 .f32) : B64 F :=
  k0_pay5 (shapeCast S1x1x64x512 X shapeCasts_S64x512_S1x1x64x512) w u
/-- The own partial and the three that arrived, summed. -/
def total (w a b d : B64 F) : B64 F := addf (addf (addf w a) b) d

/-- The blocks after a layer, from those before. -/
def nextX (l : Fin 3) (X : Dev nD → B64 F) (c : Dev nD) : B64 F :=
  total (pv (X c) (wi m l c) (wo m l c)) (pv (X c) (wi m l (add c 3)) (wo m l (add c 3)))
    (pv (X c) (wi m l (add c 2)) (wo m l (add c 2))) (pv (X c) (wi m l (add c 1)) (wo m l (add c 1)))

/-- Device `c`'s block before layer `l`, and the result's block of device `c`. -/
def XL (l : Fin 3) : Dev nD → B64 F := match l with
  | 0 => xin m | 1 => nextX m 0 (xin m) | 2 => nextX m 1 (nextX m 0 (xin m))
def X3 : Dev nD → B64 F := nextX m 2 (XL m 2)

/-- What transfer `t` from `q` to `p` carries. -/
def V (t : T) (q p : Dev nD) : B64 F := match t with
  | (.inl l, _) => XL m l q
  | (.inr (.inl l), _) => pv (XL m l p) (wi m l q) (wo m l q)
  | (.inr (.inr _), _) => X3 m q

/-! ## The payloads -/

abbrev blk (c : Dev nD) (M : Blk) (q : PosShare TreeShare) (X : B64 F) : sProp 𝕄 := owns (c : Thread nD τ) M q X
/-- A block of `c` with any contents; the permission for transfer `t` of `c`: the block it lands in. -/
def anyB (c : Dev nD) (M : Blk) : sProp 𝕄 := iprop(∃ X : B64 F, blk c M fullShare X)
def perm (c : Dev nD) (t : T) : sProp 𝕄 := anyB (F := F) (dst c t) (dstM t)

/-- A block read by three transfers at once: one share each, and one kept. -/
def shr (s : Fin 3) : PosShare TreeShare := match s with | 0 => fullShare.left.left | 1 => fullShare.left.right | 2 => fullShare.right.left
abbrev kept : PosShare TreeShare := fullShare.right.right
def qs (t : T) : PosShare TreeShare := match t with | (.inr (.inl _), _) => fullShare | (_, s) => shr s

/-- What an arrival hands over beside the block: a later transfer's permission. -/
def extra (c : Dev nD) (t : T) : sProp 𝕄 := match t with
  | (.inl l, s) => if l = 0 then iprop(emp) else perm (F := F) c (rs l, s)
  | (.inr (.inl l), s) => if l = 0 then perm (F := F) c (ag 2, s) else iprop(emp)
  | (.inr (.inr _), _) => iprop(emp)
/-- The same, as the sender holds it. -/
def extraS (c : Dev nD) (t : T) : sProp 𝕄 := match t with
  | (.inl l, s) => if l = 0 then iprop(emp) else anyB (F := F) c (rS s)
  | (.inr (.inl l), s) => if l = 0 then anyB (F := F) c (xS 0 s.castSucc) else iprop(emp)
  | (.inr (.inr _), _) => iprop(emp)

omit [FloatOps F] in
theorem fin3_cases (l : Fin 3) : l = 0 ∨ l = 1 ∨ l = 2 := by revert l; decide

theorem extra_dst (c : Dev nD) (t : T) : extra (F := F) (dst c t) t = extraS (F := F) c t := by
  rcases t with ⟨l | l | l, s⟩
  · show (if l = 0 then _ else anyB (add (add c (3 - s.val)) (1 + s.val)) (rS s)) = _
    rw [add_add]; rfl
  · show (if l = 0 then anyB (add (add c (1 + s.val)) (3 - s.val)) (xS 0 s.castSucc) else _) = _
    rw [add_add']; rfl
  · rfl

def recvPay (c : Dev nD) (t : T) : sProp 𝕄 := iprop(blk c (dstM t) fullShare (V m t (frm c t) c) ∗ extra c t)
def sendPay (c : Dev nD) (t : T) : sProp 𝕄 := blk c (srcM t) (qs t) (V m t c (dst c t))
/-- What a signal hands over: the permissions for four transfers into its sender. -/
def barPay (c : Dev nD) (j : Fin 3) : sProp 𝕄 :=
  iprop(perm (F := F) c (ag 0, j) ∗ perm (F := F) c (ag 1, j) ∗ perm (F := F) c (rs 0, 2 - j) ∗ perm (F := F) c (ou, 2 - j))

instance anyB_storable (c : Dev nD) (M : Blk) : BI.Storable (upEmb : UEmb _ 𝕄) (anyB (F := F) c M) := by unfold anyB; infer_instance
instance perm_storable (c : Dev nD) (t : T) : BI.Storable (upEmb : UEmb _ 𝕄) (perm (F := F) c t) := by unfold perm; infer_instance
instance extra_storable (c : Dev nD) (t : T) : BI.Storable (upEmb : UEmb _ 𝕄) (extra (F := F) c t) := by
  rcases t with ⟨l | l | l, s⟩
  · show BI.Storable _ (if l = 0 then iprop(emp) else perm (F := F) c (rs l, s))
    split <;> infer_instance
  · show BI.Storable _ (if l = 0 then perm (F := F) c (ag 2, s) else iprop(emp))
    split <;> infer_instance
  · show BI.Storable _ iprop(emp)
    infer_instance

/-! ## The schedule -/

/-- One round, round 0: a barrier cell has three duties of one unit, an own cell one duty of a block's credit. -/
def Rd : Rounds.Schedule (GSem nD τ sig) (Fin 3) 𝕄 where
  duties g r := if r = 0 ∧ g.1.2 = .tc then (if g.2 = .reg barS then Finset.univ else if (dec g.2).isSome then {0} else ∅) else ∅
  unitless _ := False
  amount g _ _ := if g.2 = .reg barS then 1 else N
  payload g _ d :=
    if g.2 = .reg barS then barPay g.1.1 d
    else match dec g.2 with
      | some (false, t) => sendPay m g.1.1 t
      | some (true, t) => recvPay m g.1.1 t
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) : BI.Storable (upEmb : UEmb _ 𝕄) ((Rd (F := F) m).payload g r d) := by
  show BI.Storable upEmb (if g.2 = .reg barS then barPay g.1.1 d
    else match dec g.2 with
      | some (false, t) => sendPay m g.1.1 t
      | some (true, t) => recvPay m g.1.1 t
      | none => iprop(emp))
  unfold barPay sendPay recvPay
  split
  · infer_instance
  · split <;> infer_instance

section Tables
variable (c : Dev nD)

theorem duties_bar : (Rd (F := F) m).duties (barCell c) 0 = Finset.univ := by
  dsimp only [Rd, barCell, sndCell, rcvCell, kcell, csem]; rw [if_pos ⟨rfl, rfl⟩, if_pos rfl]
theorem duties_own (k : CK) : (Rd (F := F) m).duties (kcell (c, .inr k)) 0 = {0} := by
  dsimp only [Rd, barCell, sndCell, rcvCell, kcell, csem]; rw [if_pos ⟨rfl, rfl⟩, if_neg (osem_ne_bar k), dec_osem]; rfl
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (barCell c) 0 d = 1 := by dsimp only [Rd, barCell, sndCell, rcvCell, kcell, csem]; exact if_pos rfl
theorem amount_own (k : CK) (d : Fin 3) : (Rd (F := F) m).amount (kcell (c, .inr k)) 0 d = N := by
  dsimp only [Rd, barCell, sndCell, rcvCell, kcell, csem]; exact if_neg (osem_ne_bar k)
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_own (k : CK) : (Rd (F := F) m).expect (kcell (c, .inr k)) 0 = N := by
  unfold Schedule.expect Schedule.amountOf; rw [duties_own, Finset.sum_singleton, amount_own]
theorem payload_bar (d : Fin 3) : (Rd (F := F) m).payload (barCell c) 0 d = barPay c d := by
  dsimp only [Rd, barCell, sndCell, rcvCell, kcell, csem]; exact if_pos rfl
theorem payload_snd (t : T) (d : Fin 3) : (Rd (F := F) m).payload (sndCell c t) 0 d = sendPay m c t := by
  dsimp only [Rd, barCell, sndCell, rcvCell, kcell, csem]; rw [if_neg (osem_ne_bar _), dec_osem]
theorem payload_rcv (t : T) (d : Fin 3) : (Rd (F := F) m).payload (rcvCell c t) 0 d = recvPay m c t := by
  dsimp only [Rd, barCell, sndCell, rcvCell, kcell, csem]; rw [if_neg (osem_ne_bar _), dec_osem]
theorem rest_bar : bigSep ((Rd (F := F) m).duties (barCell c) 0 \ ∅) (fun d => (Rd (F := F) m).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd (t : T) : bigSep ((Rd (F := F) m).duties (sndCell c t) 0 \ ∅) (fun d => (Rd (F := F) m).payload (sndCell c t) 0 d) = sendPay m c t := by
  rw [Finset.sdiff_empty, duties_own, bigSep_singleton, payload_snd]
theorem rest_rcv (t : T) : bigSep ((Rd (F := F) m).duties (rcvCell c t) 0 \ ∅) (fun d => (Rd (F := F) m).payload (rcvCell c t) 0 d) = recvPay m c t := by
  rw [Finset.sdiff_empty, duties_own, bigSep_singleton, payload_rcv]

end Tables

/-! ## What each device owes; the levels -/

/-- The transfers in the order they are sent. -/
def lay (l : Fin 3) : List T := [(rs l, 0), (rs l, 1), (rs l, 2)]
def gat (l : Fin 3) : List T := [(ag l, 2), (ag l, 1), (ag l, 0)]
def ordL : List T := gat 0 ++ (lay 0 ++ (gat 1 ++ (lay 1 ++ (gat 2 ++ (lay 2 ++ [(ou, 0), (ou, 1), (ou, 2)])))))

/-- The arrivals device `c` still owes, the next one outermost. -/
def owedL (c : Dev nD) : List T → CellTallies nD τ sig Unit
  | [] => 0
  | t :: ts => owedL c ts + tallyAt (rcvCell (dst c t) t) () N
def O₀ (c : Dev nD) : CellTallies nD τ sig Unit :=
  owedL c ordL + tallyAt (barCell (add c 3)) () 1 + tallyAt (barCell (add c 2)) () 1 + tallyAt (barCell (add c 1)) () 1

/-- A stage's place in the order. -/
def num (i : Stg) : ℕ := match i with | .inl l => 2 * l.val | .inr (.inl l) => 2 * l.val + 1 | .inr (.inr _) => 6

def L (g : GSem nD τ sig) : Finset Unit := if g.1.2 = .tc then {()} else ∅
/-- Barrier cells at 1, arrivals by stage from 2, everything else at 0. -/
def lv (g : GSem nD τ sig) (_ : Unit) : ℕ :=
  if g.2 = .reg barS then 1 else match dec g.2 with | some (true, t) => 2 + num t.1 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_rcv (c : Dev nD) (t : T) : lv (rcvCell c t) () = 2 + num t.1 := by
  dsimp only [lv, barCell, sndCell, rcvCell, kcell, csem]; rw [if_neg (osem_ne_bar _), dec_osem]
theorem lv_snd (c : Dev nD) (t : T) : lv (sndCell c t) () = 0 := by
  dsimp only [lv, barCell, sndCell, rcvCell, kcell, csem]; rw [if_neg (osem_ne_bar _), dec_osem]
theorem lv_stage (c : Dev nD) (w : Fin cfg0.W) (s) : lv ((c : Thread nD τ), .dma ((cfg0.win w).sem s)) () = 0 := by
  dsimp only [lv]; rw [if_neg (fun h => by cases h), dec_stage]

theorem owedL_pos {c : Dev nD} {ts : List T} {g : GSem nD τ sig} {u : Unit} (h : 0 < owedL c ts g u) : ∃ t ∈ ts, g = rcvCell (dst c t) t := by
  induction ts with
  | nil => exact absurd h (Nat.lt_irrefl 0)
  | cons t ts ih =>
    rw [owedL, Pi.add_apply, Finsupp.add_apply, tallyAt_apply] at h
    by_cases hg : g = rcvCell (dst c t) t ∧ u = ()
    · exact ⟨t, List.mem_cons_self, hg.1⟩
    · rw [if_neg hg] at h
      obtain ⟨t', ht', hg'⟩ := ih h
      exact ⟨t', List.mem_cons_of_mem _ ht', hg'⟩

theorem O₀_pos {c : Dev nD} {g : GSem nD τ sig} {u : Unit} (h : 0 < O₀ c g u) : (∃ t, g = rcvCell (dst c t) t) ∨ ∃ d, g = barCell d := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  simp only [add_zero] at h
  obtain ⟨t, -, ht⟩ := owedL_pos h
  exact hn.1 ⟨t, ht⟩

/-- A wait on a cell of a level below every arrival still owed. -/
theorem mayWait_owed (c : Dev nD) (sm : SemLoc sig) (n : ℕ) (ts : List T) (hlv : lv ((c : Thread nD τ), sm) () ≤ n)
    (hts : ∀ t ∈ ts, n < 2 + num t.1) : (levAts L lv : sProp 𝕄) ⊢ MayWait (c : Thread nD τ) sm () (owedL c ts) :=
  MayOwe.of_cut (L := L) (lev := lv) n (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact hlv)
    (fun g u hg => by obtain ⟨t, ht, rfl⟩ := owedL_pos hg; rw [lv_rcv]; exact hts t ht)

theorem mayWait_stage (c : Dev nD) (w : Fin cfg0.W) (s) (O : CellTallies nD τ sig Unit) (hO : O = O₀ c ∨ O = 0) :
    (levAts L lv : sProp 𝕄) ⊢ MayWait (c : Thread nD τ) (.dma ((cfg0.win w).sem s)) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp, lv_stage])
      (fun g u hg => by
        rcases O₀_pos hg with ⟨t, rfl⟩ | ⟨d, rfl⟩
        · rw [lv_rcv]; omega
        · rw [lv_bar]; exact Nat.one_pos)
  · rw [MayWait_zero]; iintro -; iempintro

end Cert.KernelIdeal.Mlp

end
-- ==== Proof.KernelIdeal.Steps.lean ====
/-
One rule for each kind of statement of the body, at a symbolic device and transfer.
-/
module

public import proofs.«01_k».proof.Proof.KernelIdeal.Sched
public import Idealize.ShloMosaic.Lib.Pipeline.Value
public import Idealize.ShloMosaic.Lib.MemrefSat

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × (Unit ⊕ CK) → ℕ)

/-- What every step may read: every cell's invariant, round 0 reached everywhere, the levels. -/
def records : sProp 𝕄 :=
  iprop(bigSep Finset.univ (fun ck => cellInv ER (Rd m) (K ck) (kcell ck)) ∗ bigSep Finset.univ (fun ck => reached ER (kcell ck) 0) ∗ levAts L lv)

instance records_persistent : BI.Persistent (records m K) := by unfold records; infer_instance

theorem records_inv (ck : Dev nD × (Unit ⊕ CK)) : records m K ⊢ cellInv ER (Rd m) (K ck) (kcell ck) := by
  unfold records
  classical
  have h : (bigSep Finset.univ (fun ck => cellInv ER (Rd m) (K ck) (kcell ck)) : sProp 𝕄) ⊢ cellInv ER (Rd m) (K ck) (kcell ck) :=
    bigSep_elim (Φ := fun ck => cellInv ER (Rd m) (K ck) (kcell ck)) (Finset.mem_univ ck)
  iintro ⟨H, -, -⟩
  iapply h; iexact H
theorem records_reached (ck : Dev nD × (Unit ⊕ CK)) : records m K ⊢ reached ER (kcell ck) 0 := by
  unfold records
  classical
  have h : (bigSep Finset.univ (fun ck => reached ER (kcell ck) 0) : sProp 𝕄) ⊢ reached ER (kcell ck) 0 := bigSep_elim (Φ := fun ck => reached ER (kcell ck) 0) (Finset.mem_univ ck)
  iintro ⟨-, H, -⟩
  iapply h; iexact H
theorem records_lev : records m K ⊢ levAts L lv := by
  unfold records
  iintro ⟨-, -, H⟩
  iexact H

abbrev WP {α : Type} (c : Dev nD) (p : P (F := F) α) (Q : α → sProp 𝕄) : sProp 𝕄 :=
  wp frame (wpE (defs₀ (F := F)) 𝒱₀ (c : Thread nD τ) none) Set.univ p Q

/-! ## Transfers -/

/-- The arrivals still owed, whatever has been waited for. -/
def ow (c : Dev nD) (ts : List T) : sProp 𝕄 := iprop(∃ W, owes (c : Thread nD τ) (owedL c ts) W)
/-- What sending transfer `t` takes, what waiting for its source takes, and what waiting for its arrival takes. -/
def outTok (c : Dev nD) (t : T) : sProp 𝕄 :=
  iprop(dutyTok ER (sndCell c t) 0 0 ∗ dutyTok ER (rcvCell (dst c t) t) 0 0 ∗ atPos ER (sndCell c t) 0 ∅ 0)
def flight (c : Dev nD) (t : T) : sProp 𝕄 := iprop(cred (tallyAt (sndCell c t) () N) ∗ atPos ER (sndCell c t) 0 ∅ 0)
def inTok (c : Dev nD) (t : T) : sProp 𝕄 := iprop(cred (tallyAt (rcvCell c t) () N) ∗ atPos ER (rcvCell c t) 0 ∅ 0)

variable {α : Type}

theorem wp_snd (c n : Dev nD) (t : T) (hn : n = dst c t) (ts : List T) {k : P (F := F) α} {Q : α → sProp 𝕄} :
    iprop(records m K ∗ blk c (srcM t) (qs t) (V m t c (dst c t)) ∗ perm c t ∗ extraS c t ∗ ow c (t :: ts) ∗ outTok c t)
      ⊢ iprop(((flight c t ∗ ow c ts) -∗ WP c k Q) -∗ WP c (send t n k) Q) := by
  have hd₁ : (0 : Fin 3) ∈ (Rd m).duties (sndCell c t) 0 := by
    rw [show sndCell c t = kcell (c, .inr (false, t)) from rfl, duties_own]; exact Finset.mem_singleton_self _
  have hd₂ : (0 : Fin 3) ∈ (Rd m).duties (rcvCell n t) 0 := by
    rw [show rcvCell n t = kcell (n, .inr (true, t)) from rfl, duties_own]; exact Finset.mem_singleton_self _
  have hO : owedL c (t :: ts) = owedL c ts + tallyAt (rcvCell n t) () N := by rw [hn]; rfl
  have hex : extraS c t = extra (F := F) n t := by rw [hn, extra_dst]
  have hfr : frm n t = c := by rw [hn, frm_dst]
  unfold ow outTok flight perm anyB send
  rw [← hn]
  generalize extraS (F := F) c t = e at hex
  iintro ⟨#HR, Hsrc, ⟨%X, Hdst⟩, Hex, ⟨%W, HO⟩, ⟨Ht1, Ht2, Hat⟩⟩ Hk
  unfold blk owns
  icases Hsrc with ⟨%fs, %hs, Hsrc⟩
  icases Hdst with ⟨%fd, -, Hdst⟩
  have hp₁ : ((srcM t).view.loc (c : Thread nD τ) ↦[(srcM t).view.set]{qs t} fs : sProp 𝕄) ⊢ (Rd m).payload (sndCell c t) 0 0 := by
    rw [payload_snd m c t]; unfold sendPay blk owns; iintro H; iexists fs; isplitr
    · ipureintro; rw [← hn]; exact hs
    · iexact H
  have hp₂ : iprop(((dstM t).view.loc (n : Thread nD τ) ↦[(dstM t).view.set]{fullShare}
      ((dstM t).view.write (Elt F) fd ((srcM t).view.read (Elt F) fs) Finset.univ) : sProp 𝕄) ∗ e)
        ⊢ (Rd m).payload (rcvCell n t) 0 0 := by
    rw [payload_rcv m n t]; unfold recvPay blk owns; rw [hfr, ← hex]
    iintro ⟨H, He⟩
    isplitl [H]
    · iexists ((dstM t).view.write (Elt F) fd ((srcM t).view.read (Elt F) fs) Finset.univ); isplitr
      · ipureintro; exact (View.read_write_univ fd ((srcM t).view.read (Elt F) fs)).trans hs
      · iexact H
    · iexact He
  have hc : (dstM t).view.amount (SemLoc.dma (rcvS t)) = N := credit_dst t
  have ha₁ : (Rd m).amount (sndCell c t) 0 0 = N := amount_own m c (false, t) 0
  have ha₂ : (Rd m).amount (rcvCell n t) 0 0 = N := amount_own m n (true, t) 0
  iapply (Rounds.wp_send_pointsTo_with 𝒱₀ ER (Rd m) (c : Thread nD τ) none (src := srcM t) (dst := dstM t) (sS := SemLoc.dma (sndS t)) (sem := SemLoc.dma (rcvS t)) (fs := fs)
    (c' := (n : Thread nD τ)) (q := qs t) (k := fun _ => k) (Q := Q) (hsc := dst_noSc t) (hsrc := src_exact t) (hdst := dst_exact t) (Es := Set.univ) (κ₁ := K (c, .inr (false, t))) (κ₂ := K (n, .inr (true, t)))
    (r₁ := 0) (r₂ := 0) (d₁ := 0) (d₂ := 0) (fd := fd) (F := e) hd₁ hd₂
    () () N hc ha₁ ha₂ (owedL c ts) hO (W := W) hp₁ hp₂) $$ [Hsrc Hdst Hex HO Ht1 Ht2]
  · isplitr; · iapply (records_inv m K (c, .inr (false, t))); iexact HR
    isplitr; · iapply (records_inv m K (n, .inr (true, t))); iexact HR
    isplitl [Hsrc]; · iexact Hsrc
    isplitl [Hdst Hex]
    · isplitl [Hdst]; · iexact Hdst
      iexact Hex
    isplitl [HO]; · iexact HO
    isplitl [Ht1]; · iexact Ht1
    isplitr; · iapply (records_reached m K (c, .inr (false, t))); iexact HR
    isplitl [Ht2]; · iexact Ht2
    iapply (records_reached m K (n, .inr (true, t))); iexact HR
  iintro ⟨Hc, HO⟩
  iapply Hk
  isplitl [Hc Hat]
  · isplitl [Hc]; · iexact Hc
    iexact Hat
  iexists W; iexact HO

theorem wp_rcv (c : Dev nD) (t : T) (ts : List T) (hts : ∀ t' ∈ ts, num t.1 < num t'.1) {k : P (F := F) α} {Q : α → sProp 𝕄} :
    iprop(records m K ∗ inTok c t ∗ ow c ts)
      ⊢ iprop(((recvPay m c t ∗ semVal (rcvCell c t) 0 ∗ ow c ts) -∗ WP c k Q) -∗ WP c (recv t k) Q) := by
  unfold ow inTok recv
  iintro ⟨#HR, ⟨Hc, Hat⟩, %W, HO⟩ Hk
  iapply (Rounds.wp_wait_rest_token 𝒱₀ ER (Rd m) (c : Thread nD τ) none (κ := K (c, .inr (true, t)))
      (wpE_waitDma2_eq 𝒱₀ (c : Thread nD τ) none Set.univ) (Set.mem_univ _) () (O := owedL c ts) (W := W) (R := 0) (m := 0) (T := ∅)
      (by rw [Nat.zero_add, credit_dst]; exact (expect_own m c (true, t)).symm)) $$ [Hc HO Hat]
  · isplitr; · iapply (records_inv m K (c, .inr (true, t))); iexact HR
    isplitl [Hc]; · rw [credit_dst]; iexact Hc
    isplitl [HO]; · iexact HO
    isplitr
    · iapply (mayWait_owed c _ (2 + num t.1) ts (le_of_eq (lv_rcv c t)) (fun t' ht' => Nat.add_lt_add_left (hts t' ht') 2))
      iapply (records_lev m K); iexact HR
    iexact Hat
  iintro ⟨HO, Hat, -, Hpay⟩
  have hrest : (bigSep ((Rd m).duties ((c : Thread nD τ), SemLoc.dma (rcvS t)) 0 \ ∅) fun d => (Rd m).payload ((c : Thread nD τ), SemLoc.dma (rcvS t)) 0 d)
      ⊢ recvPay m c t := Entails.of_eq (rest_rcv m c t)
  ihave Hpay := hrest $$ Hpay
  imod (Rounds.cell_close ER (Rd m) (Set.mem_univ (K (c, .inr (true, t)))) (fun h => h) (R := 0 + 1) (duties_later m (rcvCell c t))) $$ [Hat] with Hz
  · isplitr; · iapply (records_inv m K (c, .inr (true, t))); iexact HR
    iexact Hat
  iapply Hk
  isplitl [Hpay]; · iexact Hpay
  isplitl [Hz]; · iexact Hz
  iexists _; iexact HO

theorem wp_snt (c : Dev nD) (t : T) (ts : List T) {k : P (F := F) α} {Q : α → sProp 𝕄} :
    iprop(records m K ∗ flight c t ∗ ow c ts)
      ⊢ iprop(((sendPay m c t ∗ semVal (sndCell c t) 0 ∗ ow c ts) -∗ WP c k Q) -∗ WP c (sent t k) Q) := by
  unfold ow flight sent
  iintro ⟨#HR, ⟨Hc, Hat⟩, %W, HO⟩ Hk
  iapply (Rounds.wp_wait_rest_token 𝒱₀ ER (Rd m) (c : Thread nD τ) none (κ := K (c, .inr (false, t)))
      (wpE_waitDma2_eq 𝒱₀ (c : Thread nD τ) none Set.univ) (Set.mem_univ _) () (O := owedL c ts) (W := W) (R := 0) (m := 0) (T := ∅)
      (by rw [Nat.zero_add, credit_src]; exact (expect_own m c (false, t)).symm)) $$ [Hc HO Hat]
  · isplitr; · iapply (records_inv m K (c, .inr (false, t))); iexact HR
    isplitl [Hc]; · rw [credit_src]; iexact Hc
    isplitl [HO]; · iexact HO
    isplitr
    · iapply (mayWait_owed c _ 0 ts (le_of_eq (lv_snd c t)) (fun t' ht' => by omega))
      iapply (records_lev m K); iexact HR
    iexact Hat
  iintro ⟨HO, Hat, -, Hpay⟩
  have hrest : (bigSep ((Rd m).duties ((c : Thread nD τ), SemLoc.dma (sndS t)) 0 \ ∅) fun d => (Rd m).payload ((c : Thread nD τ), SemLoc.dma (sndS t)) 0 d)
      ⊢ sendPay m c t := Entails.of_eq (rest_snd m c t)
  ihave Hpay := hrest $$ Hpay
  imod (Rounds.cell_close ER (Rd m) (Set.mem_univ (K (c, .inr (false, t)))) (fun h => h) (R := 0 + 1) (duties_later m (sndCell c t))) $$ [Hat] with Hz
  · isplitr; · iapply (records_inv m K (c, .inr (false, t))); iexact HR
    iexact Hat
  iapply Hk
  isplitl [Hpay]; · iexact Hpay
  isplitl [Hz]; · iexact Hz
  iexists _; iexact HO

/-! ## Loads and stores of one block of a scratch buffer -/

section Slot
variable {s : Shape} (M : Memref sig .tc .vmem s .f32) (r : Rect s) (hr : ∀ a, r.stride a = 1) (h : r.shape.Squeezes S64x512)

/-- The block at rectangle `r`, squeezed to 64 rows. -/
abbrev slot : Blk := (M.slice r hr).squeeze S64x512 h

theorem slot_read (f : M.view.ty.Contents (Elt F)) :
    M.view.readAt (Elt F) r.toLoadRect f = shapeCast r.shape ((slot M r hr h).view.read (Elt F) f) h.numel_eq.symm := by
  rw [View.readAt_rect]
  funext y
  show (M.view.slice r).read (Elt F) f y = (M.view.slice r).read (Elt F) f (Shape.reshapeEquiv h.numel_eq (Shape.reshapeEquiv h.numel_eq.symm y))
  exact congrFun (shapeCast_shapeCast ((M.view.slice r).read (Elt F) f) h.numel_eq h.numel_eq.symm).symm y

theorem slot_write (f : M.view.ty.Contents (Elt F)) (w : r.shape.Idx → Elt F .f32) :
    (slot M r hr h).view.read (Elt F) ((M.access r).write (Elt F) f w Finset.univ) = shapeCast S64x512 w h.numel_eq := by
  funext x
  exact congrFun (View.read_write_univ (v := M.access r) f w) (Shape.reshapeEquiv h.numel_eq x)

theorem wp_slot_load (c : Dev nD) (q : PosShare TreeShare) (X : B64 F) {hl : M.view.LoadsAt r.toLoadRect} {k : (r.shape.Idx → Elt F .f32) → P (F := F) α} {Q : α → sProp 𝕄} :
    blk c (slot M r hr h) q X
      ⊢ iprop((blk c (slot M r hr h) q X -∗ WP c (k (shapeCast r.shape X h.numel_eq.symm)) Q) -∗ WP c (.op (.load M r.toLoadRect hl) k) Q) := by
  unfold blk owns
  iintro ⟨%f, %hf, H⟩ Hk
  have hset : (slot M r hr h).view.set = M.view.setOn r.set := (View.set_reshape _ _).trans (View.set_slice _ _)
  iapply (wp_load 𝒱₀ (c : Thread nD τ) none Set.univ (m := M) (r := r.toLoadRect) (by rw [hset])) $$ H
  iintro H
  rw [slot_read M r hr h, hf]
  iapply Hk
  iexists f
  isplitr; · (ipureintro; exact hf)
  iexact H

theorem wp_slot_store (c : Dev nD) (X : B64 F) {w : r.shape.Idx → Elt F .f32} {hx : (M.access r).Stores Finset.univ}
    {hm : (Finset.univ : Finset r.shape.Idx) = Finset.univ ∨ ∀ a, r.stride a = 1} {k : PUnit → P (F := F) α} {Q : α → sProp 𝕄} :
    blk c (slot M r hr h) fullShare X
      ⊢ iprop((blk c (slot M r hr h) fullShare (shapeCast S64x512 w h.numel_eq) -∗ WP c (k ⟨⟩) Q)
          -∗ WP c (.op (.store M r w Finset.univ hx hm) k) Q) := by
  unfold blk owns
  iintro ⟨%f, %hf, H⟩ Hk
  have hset : (slot M r hr h).view.set = (M.access r).setOn Finset.univ := (View.set_reshape _ _).trans (View.setOn_univ _).symm
  iapply (wp_store 𝒱₀ (c : Thread nD τ) none Set.univ (m := M) (r := r) (Mk := Finset.univ) (by rw [hset])) $$ H
  iintro H
  iapply Hk
  iexists _
  isplitr; · (ipureintro; exact slot_write M r hr h f w)
  iexact H

end Slot

variable (c : Dev nD)

/-- A block in the shapes it is loaded in. -/
abbrev up4 (X : B64 F) : FVec F S1x1x64x512 .f32 := shapeCast S1x1x64x512 X shapeCasts_S64x512_S1x1x64x512
abbrev up3 (X : B64 F) : FVec F S1x64x512 .f32 := shapeCast S1x64x512 X shapeCasts_S64x512_S1x64x512

theorem wp_ldX (p : Fin 2) (s : Fin 4) (q : PosShare TreeShare) (X : B64 F) {k : Vec F S1x1x64x512 .f32 → P (F := F) α} {Q : α → sProp 𝕄} :
    blk c (xS p s) q X ⊢ iprop((blk c (xS p s) q X -∗ WP c (k (up4 X)) Q) -∗ WP c (ldX p s k) Q) :=
  wp_slot_load xbM (xR p s) (fun _ => rfl) squeezes_S1x1x64x512_S64x512 c q X
theorem wp_ldR (j : Fin 3) (q : PosShare TreeShare) (X : B64 F) {k : Vec F S1x64x512 .f32 → P (F := F) α} {Q : α → sProp 𝕄} :
    blk c (rS j) q X ⊢ iprop((blk c (rS j) q X -∗ WP c (k (up3 X)) Q) -∗ WP c (ldR j k) Q) :=
  wp_slot_load rbM (rR j) (fun _ => rfl) squeezes_S1x64x512_S64x512 c q X
theorem wp_ldO (j : Fin 4) (q : PosShare TreeShare) (X : B64 F) {k : Vec F S1x64x512 .f32 → P (F := F) α} {Q : α → sProp 𝕄} :
    blk c (oS j) q X ⊢ iprop((blk c (oS j) q X -∗ WP c (k (up3 X)) Q) -∗ WP c (ldO j k) Q) :=
  wp_slot_load obM (oR j) (fun _ => rfl) squeezes_S1x64x512_S64x512 c q X
theorem wp_stX (p : Fin 2) (s : Fin 4) (v : FVec F S1x1x64x512 .f32) (Y : B64 F) (hv : shapeCast S64x512 v shapeCasts_S1x1x64x512_S64x512 = Y) {k : P (F := F) α} {Q : α → sProp 𝕄} :
    anyB c (xS p s) ⊢ iprop((blk c (xS p s) fullShare Y -∗ WP c k Q) -∗ WP c (stX p s v k) Q) := by
  subst hv
  unfold anyB stX ldX xS
  iintro ⟨%X, H⟩ Hk
  iapply (wp_slot_load xbM (xR p s) (fun _ => rfl) squeezes_S1x1x64x512_S64x512 c fullShare X) $$ H
  iintro H
  iapply (wp_slot_store xbM (xR p s) (fun _ => rfl) squeezes_S1x1x64x512_S64x512 c X) $$ H
  iexact Hk
theorem wp_stP (j : Fin 9) (v : FVec F S1x64x512 .f32) (Y : B64 F) (hv : shapeCast S64x512 v shapeCasts_S1x64x512_S64x512 = Y) {k : P (F := F) α} {Q : α → sProp 𝕄} :
    anyB c (pS j) ⊢ iprop((blk c (pS j) fullShare Y -∗ WP c k Q) -∗ WP c (stP j v k) Q) := by
  subst hv
  unfold anyB stP pS
  iintro ⟨%X, H⟩ Hk
  iapply (wp_slot_load pbM (pR j) (fun _ => rfl) squeezes_S1x64x512_S64x512 c fullShare X) $$ H
  iintro H
  iapply (wp_slot_store pbM (pR j) (fun _ => rfl) squeezes_S1x64x512_S64x512 c X) $$ H
  iexact Hk
theorem wp_stO (j : Fin 4) (v : FVec F S1x64x512 .f32) (Y : B64 F) (hv : shapeCast S64x512 v shapeCasts_S1x64x512_S64x512 = Y) {k : P (F := F) α} {Q : α → sProp 𝕄} :
    anyB c (oS j) ⊢ iprop((blk c (oS j) fullShare Y -∗ WP c k Q) -∗ WP c (stO j v k) Q) := by
  subst hv
  unfold anyB stO ldO oS
  iintro ⟨%X, H⟩ Hk
  iapply (wp_slot_load obM (oR j) (fun _ => rfl) squeezes_S1x64x512_S64x512 c fullShare X) $$ H
  iintro H
  iapply (wp_slot_store obM (oR j) (fun _ => rfl) squeezes_S1x64x512_S64x512 c X) $$ H
  iexact Hk

/-! ## The operands, held whole -/

theorem hz2 : (![0, 0] : Fin 2 → Nat) = fun _ => 0 := funext fun a => by fin_cases a <;> rfl

theorem wi_read : (l : Fin 3) → (f : (wiM l).view.ty.Contents (Elt F)) →
    (wiM l).view.readAt (Elt F) (Rect.unit (s := S512x1024) ![0, 0] S512x1024.size inb_S512x1024_S512x1024_0_0).toLoadRect f = (wiM l).view.read (Elt F) f
  | 0, f => Memref.readAt_unit_zero (Elt F) cc0_stg1_0 hz2 _ f
  | 1, f => Memref.readAt_unit_zero (Elt F) cc0_stg3_0 hz2 _ f
  | 2, f => Memref.readAt_unit_zero (Elt F) cc0_stg5_0 hz2 _ f
theorem wo_read : (l : Fin 3) → (f : (woM l).view.ty.Contents (Elt F)) →
    (woM l).view.readAt (Elt F) (Rect.unit (s := S1024x512) ![0, 0] S1024x512.size inb_S1024x512_S1024x512_0_0).toLoadRect f = (woM l).view.read (Elt F) f
  | 0, f => Memref.readAt_unit_zero (Elt F) cc0_stg2_0 hz2 _ f
  | 1, f => Memref.readAt_unit_zero (Elt F) cc0_stg4_0 hz2 _ f
  | 2, f => Memref.readAt_unit_zero (Elt F) cc0_stg6_0 hz2 _ f

theorem wp_ldWi (l : Fin 3) (X : FVec F S512x1024 .f32) {k : Vec F S512x1024 .f32 → P (F := F) α} {Q : α → sProp 𝕄} :
    owns (c : Thread nD τ) (wiM l) fullShare X ⊢ iprop((owns (c : Thread nD τ) (wiM l) fullShare X -∗ WP c (k X) Q) -∗ WP c (ldWi l k) Q) := by
  unfold owns ldWi
  iintro ⟨%f, %hf, H⟩ Hk
  iapply (wp_load 𝒱₀ (c : Thread nD τ) none Set.univ (m := wiM l) (by
    fin_cases l <;> exact (Finset.subset_univ _).trans (View.set_whole _).ge)) $$ H
  iintro H
  rw [show (wiM l).view.readAt (Elt F) (Rect.unit (s := S512x1024) ![0, 0] S512x1024.size inb_S512x1024_S512x1024_0_0).toLoadRect f = X from by
    rw [← hf]; exact wi_read l f]
  iapply Hk
  iexists f
  isplitr; · (ipureintro; exact hf)
  iexact H
theorem wp_ldWo (l : Fin 3) (X : FVec F S1024x512 .f32) {k : Vec F S1024x512 .f32 → P (F := F) α} {Q : α → sProp 𝕄} :
    owns (c : Thread nD τ) (woM l) fullShare X ⊢ iprop((owns (c : Thread nD τ) (woM l) fullShare X -∗ WP c (k X) Q) -∗ WP c (ldWo l k) Q) := by
  unfold owns ldWo
  iintro ⟨%f, %hf, H⟩ Hk
  iapply (wp_load 𝒱₀ (c : Thread nD τ) none Set.univ (m := woM l) (by
    fin_cases l <;> exact (Finset.subset_univ _).trans (View.set_whole _).ge)) $$ H
  iintro H
  rw [show (woM l).view.readAt (Elt F) (Rect.unit (s := S1024x512) ![0, 0] S1024x512.size inb_S1024x512_S1024x512_0_0).toLoadRect f = X from by
    rw [← hf]; exact wo_read l f]
  iapply Hk
  iexists f
  isplitr; · (ipureintro; exact hf)
  iexact H
theorem wp_ldXin (q : PosShare TreeShare) (X : B64 F) {k : Vec F S64x512 .f32 → P (F := F) α} {Q : α → sProp 𝕄} :
    blk c xM q X ⊢ iprop((blk c xM q X -∗ WP c (k X) Q)
      -∗ WP c (.op (.load xM (Rect.unit (s := S64x512) ![0, 0] S64x512.size inb_S64x512_S64x512_0_0).toLoadRect (View.loadsAt_vmem h_S64x512)) k) Q) := by
  unfold blk owns
  iintro ⟨%f, %hf, H⟩ Hk
  iapply (wp_load 𝒱₀ (c : Thread nD τ) none Set.univ (m := xM) ((Finset.subset_univ _).trans (View.set_whole _).ge)) $$ H
  iintro H
  rw [show xM.view.readAt (Elt F) (Rect.unit (s := S64x512) ![0, 0] S64x512.size inb_S64x512_S64x512_0_0).toLoadRect f = X from by
    rw [← hf]
    exact Memref.readAt_unit_zero (Elt F) cc0_stg0_0 hz2 _ f]
  iapply Hk
  iexists f
  isplitr; · (ipureintro; exact hf)
  iexact H

/-- The result's staging buffer after rows at `off` are stored. -/
def putRows (off : Fin 2 → ℕ) (inb : ∀ a, off a + S64x512.size a ≤ S256x512.size a) (g : FVec F S256x512 .f32) (v : B64 F) : FVec F S256x512 .f32 :=
  (outM.access (Rect.unit (s := S256x512) off S64x512.size inb)).write (Elt F) g v Finset.univ

theorem wp_stOut (off : Fin 2 → ℕ) (inb : ∀ a, off a + S64x512.size a ≤ S256x512.size a) (v : B64 F) (g : FVec F S256x512 .f32) {k : P (F := F) α} {Q : α → sProp 𝕄} :
    (((c : Thread nD τ).loc cc0_stg7_0) ↦{fullShare} g : sProp 𝕄)
      ⊢ iprop(((((c : Thread nD τ).loc cc0_stg7_0) ↦{fullShare} (putRows off inb g v)) -∗ WP c k Q) -∗ WP c (stOut off inb v k) Q) := by
  unfold stOut
  iintro H Hk
  iapply (wp_load 𝒱₀ (c : Thread nD τ) none Set.univ (m := outM) (Finset.subset_univ _)) $$ H
  iintro H
  iapply (wp_store 𝒱₀ (c : Thread nD τ) none Set.univ (m := outM) (r := Rect.unit (s := S256x512) off S64x512.size inb) (Mk := Finset.univ) (Finset.subset_univ _)) $$ H
  iexact Hk

end Cert.KernelIdeal.Mlp

end
-- ==== Proof.KernelIdeal.Layer.lean ====
/-
The body in its parts, each at a symbolic device and layer: the handshake, a gather, a layer, the output, the last waits.
-/
module

public import proofs.«01_k».proof.Proof.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × (Unit ⊕ CK) → ℕ) (c : Dev nD)
variable {α : Type}

/-- The three of a kind; the transfers, kind by kind. -/
abbrev tri (Φ : Fin 3 → sProp 𝕄) : sProp 𝕄 := iprop(Φ 0 ∗ Φ 1 ∗ Φ 2)
/-- An emptied cell. -/
abbrev zR (t : T) : sProp 𝕄 := semVal (rcvCell c t) 0
abbrev zS (t : T) : sProp 𝕄 := semVal (sndCell c t) 0
/-- The weights of layer `l` as staged. -/
def wts (l : Fin 3) : sProp 𝕄 :=
  iprop(owns (c : Thread nD τ) (wiM l) fullShare (wi m l c) ∗ owns (c : Thread nD τ) (woM l) fullShare (wo m l c))

/-! ## The handshake -/

def barTok : sProp 𝕄 :=
  iprop(tri (fun j => dutyTok ER (barCell (add c (1 + j.val))) 0 j) ∗ atPos ER (barCell c) 0 ∅ 0 ∗ cred (tallyAt (barCell c) () 3))

theorem barPay_add (j : Fin 3) : barPay (F := F) (add c (1 + j.val)) j
    = iprop(anyB c (xS 0 j.castSucc) ∗ anyB c (xS 1 j.castSucc) ∗ anyB c (rS (2 - j)) ∗ anyB c (oS (r3 (2 - j)))) := by
  show iprop(anyB (dst (add c (1 + j.val)) (ag 0, j)) (xS 0 j.castSucc) ∗ anyB (dst (add c (1 + j.val)) (ag 1, j)) (xS 1 j.castSucc)
    ∗ anyB (dst (add c (1 + j.val)) (rs 0, 2 - j)) (rS (2 - j)) ∗ anyB (dst (add c (1 + j.val)) (ou, 2 - j)) (oS (r3 (2 - j)))) = _
  have h1 : dst (add c (1 + j.val)) (ag 0, j) = c := by revert c j; decide
  have h2 : dst (add c (1 + j.val)) (ag 1, j) = c := by revert c j; decide
  have h3 : dst (add c (1 + j.val)) (rs 0, 2 - j) = c := by revert c j; decide
  have h4 : dst (add c (1 + j.val)) (ou, 2 - j) = c := by revert c j; decide
  rw [h1, h2, h3, h4]

theorem wp_sig (n : Dev nD) (j : Fin 3) (hn : n = add c (1 + j.val)) (O : CellTallies nD τ sig Unit) {k : PUnit → P (F := F) α} {Q : α → sProp 𝕄} :
    iprop(records m K ∗ (∃ W, owes (c : Thread nD τ) (O + tallyAt (barCell n) () 1) W) ∗ dutyTok ER (barCell (add c (1 + j.val))) 0 j
        ∗ anyB c (xS 0 j.castSucc) ∗ anyB c (xS 1 j.castSucc) ∗ anyB c (rS (2 - j)) ∗ anyB c (oS (r3 (2 - j))))
      ⊢ iprop(((∃ W, owes (c : Thread nD τ) O W) -∗ WP c (k ⟨⟩) Q) -∗ WP c (.op (.semSignal (n : Thread nD τ) barS ((1#32 : BitVec 32).toInt)) k) Q) := by
  have hp : iprop(anyB c (xS 0 j.castSucc) ∗ anyB c (xS 1 j.castSucc) ∗ anyB c (rS (2 - j)) ∗ anyB c (oS (r3 (2 - j))))
      ⊢ (Rd m).payload ((n : Thread nD τ), SemLoc.reg barS) 0 j := by
    show _ ⊢ (Rd m).payload (barCell n) 0 j
    rw [payload_bar, hn, barPay_add]
  have hd : j ∈ (Rd m).duties (barCell n) 0 := by rw [duties_bar]; exact Finset.mem_univ _
  rw [← hn]
  iintro ⟨#HR, ⟨%W, HO⟩, Ht, Hp⟩ Hk
  ihave Hp := hp $$ Hp
  iapply (Rounds.wp_signal 𝒱₀ ER (Rd m) (c : Thread nD τ) none (dst := (n : Thread nD τ)) (κ := K (n, .inl ()))
      (d := j) hd ((amount_bar m n j).trans (by decide)) () O rfl) $$ [HO Ht Hp]
  · isplitr; · iapply (records_inv m K (n, .inl ())); iexact HR
    isplitl [HO]; · iexact HO
    isplitl [Ht]; · iexact Ht
    isplitl [Hp]; · iexact Hp
    iapply (records_reached m K (n, .inl ())); iexact HR
  iintro HO
  iapply Hk
  iexists W; iexact HO

theorem wp_shake {k : P (F := F) α} {Q : α → sProp 𝕄} :
    iprop(records m K ∗ barTok c ∗ (∃ W, owes (c : Thread nD τ) (O₀ c) W)
        ∗ tri (fun s => anyB c (xS 0 s.castSucc)) ∗ tri (fun s => anyB c (xS 1 s.castSucc)) ∗ tri (fun s => anyB c (rS s)) ∗ tri (fun s => anyB c (oS (r3 s))))
      ⊢ iprop(((tri (fun s => perm c (ag 0, s)) ∗ tri (fun s => perm c (ag 1, s)) ∗ tri (fun s => perm c (rs 0, s)) ∗ tri (fun s => perm c (ou, s))
          ∗ semVal (barCell c) 0 ∗ ow c ordL) -∗ WP c k Q) -∗ WP c (shake (tgtB c) >>= fun _ => k) Q) := by
  unfold shake barTok
  simp only [semSignalWord, semWaitWord, Prog.bind_op, Prog.bind_ret]
  iintro ⟨#HR, ⟨⟨Ht0, Ht1, Ht2⟩, Hat, Hc⟩, HO, ⟨Hx0, Hx1, Hx2⟩, ⟨Hy0, Hy1, Hy2⟩, ⟨Hr0, Hr1, Hr2⟩, ⟨Ho0, Ho1, Ho2⟩⟩ Hk
  unfold O₀
  iapply (wp_sig m K c (tgtB c 0) 0 (tgtB_eq c 0) (owedL c ordL + tallyAt (barCell (add c 3)) () 1 + tallyAt (barCell (add c 2)) () 1)) $$ [HO Ht0 Hx0 Hy0 Hr2 Ho2]
  · isplitr; · iexact HR
    isplitl [HO]; · rw [tgtB_eq]; iexact HO
    isplitl [Ht0]; · iexact Ht0
    isplitl [Hx0]; · iexact Hx0
    isplitl [Hy0]; · iexact Hy0
    isplitl [Hr2]; · iexact Hr2
    iexact Ho2
  iintro HO
  iapply (wp_sig m K c (tgtB c 1) 1 (tgtB_eq c 1) (owedL c ordL + tallyAt (barCell (add c 3)) () 1)) $$ [HO Ht1 Hx1 Hy1 Hr1 Ho1]
  · isplitr; · iexact HR
    isplitl [HO]; · rw [tgtB_eq]; iexact HO
    isplitl [Ht1]; · iexact Ht1
    isplitl [Hx1]; · iexact Hx1
    isplitl [Hy1]; · iexact Hy1
    isplitl [Hr1]; · iexact Hr1
    iexact Ho1
  iintro HO
  iapply (wp_sig m K c (tgtB c 2) 2 (tgtB_eq c 2) (owedL c ordL)) $$ [HO Ht2 Hx2 Hy2 Hr0 Ho0]
  · isplitr; · iexact HR
    isplitl [HO]; · rw [tgtB_eq]; iexact HO
    isplitl [Ht2]; · iexact Ht2
    isplitl [Hx2]; · iexact Hx2
    isplitl [Hy2]; · iexact Hy2
    isplitl [Hr0]; · iexact Hr0
    iexact Ho0
  iintro ⟨%W, HO⟩
  iapply (Rounds.wp_wait_rest_token 𝒱₀ ER (Rd m) (c : Thread nD τ) none (κ := K (c, .inl ()))
      (wpE_semWait_eq 𝒱₀ (c : Thread nD τ) none Set.univ) (Set.mem_univ _) () (O := owedL c ordL) (W := W) (R := 0) (m := 0) (T := ∅)
      (by exact (expect_bar m c).symm)) $$ [Hc HO Hat]
  · isplitr; · iapply (records_inv m K (c, .inl ())); iexact HR
    isplitl [Hc]; · iexact Hc
    isplitl [HO]; · iexact HO
    isplitr
    · iapply (mayWait_owed c _ 1 ordL (le_of_eq (lv_bar c)) (fun t' _ => by omega))
      iapply (records_lev m K); iexact HR
    iexact Hat
  iintro ⟨HO, Hat, -, Hpay⟩
  have hrest : (bigSep ((Rd m).duties ((c : Thread nD τ), SemLoc.reg barS) 0 \ ∅) fun d => (Rd m).payload ((c : Thread nD τ), SemLoc.reg barS) 0 d)
      ⊢ iprop(barPay (F := F) c 0 ∗ barPay (F := F) c 1 ∗ barPay (F := F) c 2) := Entails.of_eq (rest_bar m c)
  ihave Hpay := hrest $$ Hpay
  imod (Rounds.cell_close ER (Rd m) (Set.mem_univ (K (c, .inl ()))) (fun h => h) (R := 0 + 1) (duties_later m (barCell c))) $$ [Hat] with Hz
  · isplitr; · iapply (records_inv m K (c, .inl ())); iexact HR
    iexact Hat
  unfold barPay
  icases Hpay with ⟨⟨Ha0, Hb0, Hs2, Ho2⟩, ⟨Ha1, Hb1, Hs1, Ho1⟩, ⟨Ha2, Hb2, Hs0, Ho0⟩⟩
  iapply Hk
  isplitl [Ha0 Ha1 Ha2]
  · isplitl [Ha0]; · iexact Ha0
    isplitl [Ha1]; · iexact Ha1
    iexact Ha2
  isplitl [Hb0 Hb1 Hb2]
  · isplitl [Hb0]; · iexact Hb0
    isplitl [Hb1]; · iexact Hb1
    iexact Hb2
  isplitl [Hs0 Hs1 Hs2]
  · isplitl [Hs0]; · iexact Hs0
    isplitl [Hs1]; · iexact Hs1
    iexact Hs2
  isplitl [Ho0 Ho1 Ho2]
  · isplitl [Ho0]; · iexact Ho0
    isplitl [Ho1]; · iexact Ho1
    iexact Ho2
  isplitl [Hz]; · iexact Hz
  unfold ow
  iexists _; iexact HO

/-! ## Three reads of one block at once -/

theorem split4 (M : Blk) (X : B64 F) : blk c M fullShare X ⊢ iprop(tri (fun s => blk c M (shr s) X) ∗ blk c M kept X) := by
  iintro H
  ihave H := ((owns_halves (c : Thread nD τ) M fullShare X).1) $$ H
  icases H with ⟨Ha, Hb⟩
  ihave Ha := ((owns_halves (c : Thread nD τ) M fullShare.left X).1) $$ Ha
  ihave Hb := ((owns_halves (c : Thread nD τ) M fullShare.right X).1) $$ Hb
  icases Ha with ⟨H0, H1⟩
  icases Hb with ⟨H2, H3⟩
  isplitl [H0 H1 H2]
  · isplitl [H0]; · iexact H0
    isplitl [H1]; · iexact H1
    iexact H2
  iexact H3
theorem join4 (M : Blk) (X : B64 F) : iprop(tri (fun s => blk c M (shr s) X) ∗ blk c M kept X) ⊢ blk c M fullShare X := by
  iintro ⟨⟨H0, H1, H2⟩, H3⟩
  iapply (owns_halves (c : Thread nD τ) M fullShare X).2
  isplitl [H0 H1]
  · iapply (owns_halves (c : Thread nD τ) M fullShare.left X).2
    isplitl [H0]; · iexact H0
    iexact H1
  · iapply (owns_halves (c : Thread nD τ) M fullShare.right X).2
    isplitl [H2]; · iexact H2
    iexact H3

theorem wp_gather (l : Fin 3) (n : Fin 3 → Dev nD) (hn : ∀ s, n s = dst c (ag l, s)) (ts : List T) {k : P (F := F) α} {Q : α → sProp 𝕄} :
    iprop(records m K ∗ blk c (agSrc l) fullShare (XL m l c) ∗ tri (fun s => perm c (ag l, s)) ∗ tri (fun s => extraS c (ag l, s))
        ∗ tri (fun s => outTok c (ag l, s)) ∗ ow c (gat l ++ ts))
      ⊢ iprop(((tri (fun s => flight c (ag l, s)) ∗ blk c (agSrc l) kept (XL m l c) ∗ ow c ts) -∗ WP c k Q) -∗ WP c (gather l n k) Q) := by
  unfold gather
  iintro ⟨#HR, Hx, ⟨Hp0, Hp1, Hp2⟩, ⟨He0, He1, He2⟩, ⟨Ht0, Ht1, Ht2⟩, HO⟩ Hk
  ihave Hx := (split4 c (agSrc l) (XL m l c)) $$ Hx
  icases Hx with ⟨⟨Hx0, Hx1, Hx2⟩, Hx⟩
  iapply (wp_snd m K c (n 2) (ag l, 2) (hn 2) ((ag l, 1) :: (ag l, 0) :: ts)) $$ [Hx2 Hp2 He2 Ht2 HO]
  · isplitr; · iexact HR
    isplitl [Hx2]; · iexact Hx2
    isplitl [Hp2]; · iexact Hp2
    isplitl [He2]; · iexact He2
    isplitl [HO]; · iexact HO
    iexact Ht2
  iintro ⟨Hf2, HO⟩
  iapply (wp_snd m K c (n 1) (ag l, 1) (hn 1) ((ag l, 0) :: ts)) $$ [Hx1 Hp1 He1 Ht1 HO]
  · isplitr; · iexact HR
    isplitl [Hx1]; · iexact Hx1
    isplitl [Hp1]; · iexact Hp1
    isplitl [He1]; · iexact He1
    isplitl [HO]; · iexact HO
    iexact Ht1
  iintro ⟨Hf1, HO⟩
  iapply (wp_snd m K c (n 0) (ag l, 0) (hn 0) ts) $$ [Hx0 Hp0 He0 Ht0 HO]
  · isplitr; · iexact HR
    isplitl [Hx0]; · iexact Hx0
    isplitl [Hp0]; · iexact Hp0
    isplitl [He0]; · iexact He0
    isplitl [HO]; · iexact HO
    iexact Ht0
  iintro ⟨Hf0, HO⟩
  iapply Hk
  isplitl [Hf0 Hf1 Hf2]
  · isplitl [Hf0]; · iexact Hf0
    isplitl [Hf1]; · iexact Hf1
    iexact Hf2
  isplitl [Hx]; · iexact Hx
  iexact HO

/-! ## A layer -/

/-- Layer 0's partials may land where the handshake allowed, a later layer's where the gathered block said. -/
def perm0 (l s : Fin 3) : sProp 𝕄 := if l = 0 then perm (F := F) c (rs l, s) else iprop(emp)
theorem perm_take (l s : Fin 3) : iprop(perm0 c l s ∗ extra c (ag l, s)) ⊢ perm (F := F) c (rs l, s) := by
  show iprop((if l = 0 then perm (F := F) c (rs l, s) else iprop(emp)) ∗ (if l = 0 then iprop(emp) else perm (F := F) c (rs l, s))) ⊢ _
  split
  · iintro ⟨H, -⟩; iexact H
  · iintro ⟨-, H⟩; iexact H
/-- Of layer 0's gathered block the sender of the partial hands back the room; the other layers keep theirs. -/
def keep (l s : Fin 3) : sProp 𝕄 := if l = 0 then iprop(emp) else anyB (F := F) c (xS (par l) s.castSucc)
theorem keep_give (l s : Fin 3) : anyB (F := F) c (xS (par l) s.castSucc) ⊢ iprop(extraS c (rs l, s) ∗ keep c l s) := by
  show _ ⊢ iprop((if l = 0 then anyB (F := F) c (xS 0 s.castSucc) else iprop(emp)) ∗ (if l = 0 then iprop(emp) else anyB (F := F) c (xS (par l) s.castSucc)))
  by_cases h : l = 0
  · subst h
    rw [if_pos rfl, if_pos rfl]
    iintro H
    isplitl [H]; · iexact H
    iempintro
  · rw [if_neg h, if_neg h]
    iintro H
    isplitr; · iempintro
    iexact H

theorem pay2_eq (X : B64 F) (w : FVec F S512x1024 .f32) (u : FVec F S1024x512 .f32) :
    shapeCast S64x512 (k0_pay2 (up4 X) w u) shapeCasts_S1x64x512_S64x512 = pv X w u :=
  shapeCast_shapeCast (pv X w u) shapeCasts_S64x512_S1x64x512 shapeCasts_S1x64x512_S64x512

theorem wp_slotStep (l s : Fin 3) (n : Dev nD) (hn : n = dst c (rs l, s)) (ts : List T) (hts : ∀ t ∈ (rs l, s) :: ts, num (ag l) < num t.1)
    {k : P (F := F) α} {Q : α → sProp 𝕄} :
    iprop(records m K ∗ inTok c (ag l, s) ∗ outTok c (rs l, s) ∗ perm0 c l s ∗ anyB c (pS (pj l s)) ∗ wts m c l ∗ ow c ((rs l, s) :: ts))
      ⊢ iprop(((zR c (ag l, s) ∗ flight c (rs l, s) ∗ keep c l s ∗ wts m c l ∗ ow c ts) -∗ WP c k Q) -∗ WP c (slotStep l s n k) Q) := by
  unfold slotStep wts
  iintro ⟨#HR, Hin, Hout, Hp, Hb, ⟨Hw, Hu⟩, HO⟩ Hk
  iapply (wp_rcv m K c (ag l, s) ((rs l, s) :: ts) hts) $$ [Hin HO]
  · isplitr; · iexact HR
    isplitl [Hin]; · iexact Hin
    iexact HO
  iintro ⟨Hpay, Hz, HO⟩
  unfold recvPay
  icases Hpay with ⟨Hx, He⟩
  ihave Hp := (perm_take c l s) $$ [Hp He]
  · isplitl [Hp]; · iexact Hp
    iexact He
  iapply (wp_ldX c (par l) s.castSucc fullShare (V m (ag l, s) (frm c (ag l, s)) c)) $$ [Hx]
  · iexact Hx
  iintro Hx
  iapply (wp_ldWi c l (wi m l c)) $$ Hw
  iintro Hw
  iapply (wp_ldWo c l (wo m l c)) $$ Hu
  iintro Hu
  iapply (wp_stP c (pj l s) _ (V m (rs l, s) c (dst c (rs l, s))) (pay2_eq _ _ _)) $$ Hb
  iintro Hb
  ihave Hx := (keep_give c l s) $$ [Hx]
  · unfold anyB; iexists _; iexact Hx
  icases Hx with ⟨He, Hkeep⟩
  iapply (wp_snd m K c n (rs l, s) hn ts) $$ [Hb Hp He Hout HO]
  · isplitr; · iexact HR
    isplitl [Hb]; · iexact Hb
    isplitl [Hp]; · iexact Hp
    isplitl [He]; · iexact He
    isplitl [HO]; · iexact HO
    iexact Hout
  iintro ⟨Hf, HO⟩
  iapply Hk
  isplitl [Hz]; · iexact Hz
  isplitl [Hf]; · iexact Hf
  isplitl [Hkeep]; · iexact Hkeep
  isplitl [Hw Hu]
  · isplitl [Hw]; · iexact Hw
    iexact Hu
  iexact HO

/-- The three partials that arrived. -/
def arrived (l s : Fin 3) : B64 F := V m (rs l, s) (frm c (rs l, s)) c

theorem wp_layer (l : Fin 3) (n : Fin 3 → Dev nD) (hn : ∀ s, n s = dst c (rs l, s)) (q : PosShare TreeShare) (ts : List T)
    (h1 : ∀ t ∈ lay l ++ ts, num (ag l) < num t.1) (h2 : ∀ t ∈ ts, num (rs l) < num t.1)
    {k : FVec F S64x512 .f32 → Vec F S1x64x512 .f32 → Vec F S1x64x512 .f32 → Vec F S1x64x512 .f32 → P (F := F) α} {Q : α → sProp 𝕄} :
    iprop(records m K ∗ tri (fun s => inTok c (ag l, s)) ∗ tri (fun s => inTok c (rs l, s)) ∗ tri (fun s => outTok c (rs l, s))
        ∗ tri (fun s => perm0 c l s) ∗ tri (fun s => anyB c (pS (pj l s))) ∗ wts m c l ∗ blk c (xS (par l) 3) q (XL m l c) ∗ ow c (lay l ++ ts))
      ⊢ iprop(((tri (fun s => zR c (ag l, s)) ∗ tri (fun s => zR c (rs l, s)) ∗ tri (fun s => flight c (rs l, s)) ∗ tri (fun s => keep c l s)
          ∗ tri (fun s => extra c (rs l, s)) ∗ tri (fun s => anyB c (rS s)) ∗ wts m c l ∗ blk c (xS (par l) 3) q (XL m l c) ∗ ow c ts)
            -∗ WP c (k (pv (XL m l c) (wi m l c) (wo m l c)) (up3 (arrived m c l 0)) (up3 (arrived m c l 1)) (up3 (arrived m c l 2))) Q)
          -∗ WP c (layer l n k) Q) := by
  have hl : lay l ++ ts = (rs l, 0) :: (rs l, 1) :: (rs l, 2) :: ts := rfl
  rw [hl] at h1 ⊢
  unfold layer
  iintro ⟨#HR, ⟨Hi0, Hi1, Hi2⟩, ⟨Hj0, Hj1, Hj2⟩, ⟨Ht0, Ht1, Ht2⟩, ⟨Hp0, Hp1, Hp2⟩, ⟨Hb0, Hb1, Hb2⟩, Hw, Hx, HO⟩ Hk
  iapply (wp_slotStep m K c l 0 (n 0) (hn 0) ((rs l, 1) :: (rs l, 2) :: ts) h1) $$ [Hi0 Ht0 Hp0 Hb0 Hw HO]
  · isplitr; · iexact HR
    isplitl [Hi0]; · iexact Hi0
    isplitl [Ht0]; · iexact Ht0
    isplitl [Hp0]; · iexact Hp0
    isplitl [Hb0]; · iexact Hb0
    isplitl [Hw]; · iexact Hw
    iexact HO
  iintro ⟨Hz0, Hf0, Hk0, Hw, HO⟩
  iapply (wp_slotStep m K c l 1 (n 1) (hn 1) ((rs l, 2) :: ts) (fun t ht => h1 t (List.mem_cons_of_mem _ ht))) $$ [Hi1 Ht1 Hp1 Hb1 Hw HO]
  · isplitr; · iexact HR
    isplitl [Hi1]; · iexact Hi1
    isplitl [Ht1]; · iexact Ht1
    isplitl [Hp1]; · iexact Hp1
    isplitl [Hb1]; · iexact Hb1
    isplitl [Hw]; · iexact Hw
    iexact HO
  iintro ⟨Hz1, Hf1, Hk1, Hw, HO⟩
  iapply (wp_slotStep m K c l 2 (n 2) (hn 2) ts (fun t ht => h1 t (List.mem_cons_of_mem _ (List.mem_cons_of_mem _ ht)))) $$ [Hi2 Ht2 Hp2 Hb2 Hw HO]
  · isplitr; · iexact HR
    isplitl [Hi2]; · iexact Hi2
    isplitl [Ht2]; · iexact Ht2
    isplitl [Hp2]; · iexact Hp2
    isplitl [Hb2]; · iexact Hb2
    isplitl [Hw]; · iexact Hw
    iexact HO
  iintro ⟨Hz2, Hf2, Hk2, Hw, HO⟩
  unfold wts
  icases Hw with ⟨Hw, Hu⟩
  iapply (wp_ldX c (par l) 3 q (XL m l c)) $$ Hx
  iintro Hx
  iapply (wp_ldWi c l (wi m l c)) $$ Hw
  iintro Hw
  iapply (wp_ldWo c l (wo m l c)) $$ Hu
  iintro Hu
  iapply (wp_rcv m K c (rs l, 0) ts h2) $$ [Hj0 HO]
  · isplitr; · iexact HR
    isplitl [Hj0]; · iexact Hj0
    iexact HO
  iintro ⟨Ha0, Hy0, HO⟩
  iapply (wp_rcv m K c (rs l, 1) ts h2) $$ [Hj1 HO]
  · isplitr; · iexact HR
    isplitl [Hj1]; · iexact Hj1
    iexact HO
  iintro ⟨Ha1, Hy1, HO⟩
  iapply (wp_rcv m K c (rs l, 2) ts h2) $$ [Hj2 HO]
  · isplitr; · iexact HR
    isplitl [Hj2]; · iexact Hj2
    iexact HO
  iintro ⟨Ha2, Hy2, HO⟩
  unfold recvPay
  icases Ha0 with ⟨Ha0, He0⟩
  icases Ha1 with ⟨Ha1, He1⟩
  icases Ha2 with ⟨Ha2, He2⟩
  iapply (wp_ldR c 0 fullShare (arrived m c l 0)) $$ [Ha0]
  · iexact Ha0
  iintro Ha0
  iapply (wp_ldR c 1 fullShare (arrived m c l 1)) $$ [Ha1]
  · iexact Ha1
  iintro Ha1
  iapply (wp_ldR c 2 fullShare (arrived m c l 2)) $$ [Ha2]
  · iexact Ha2
  iintro Ha2
  iapply Hk
  isplitl [Hz0 Hz1 Hz2]
  · isplitl [Hz0]; · iexact Hz0
    isplitl [Hz1]; · iexact Hz1
    iexact Hz2
  isplitl [Hy0 Hy1 Hy2]
  · isplitl [Hy0]; · iexact Hy0
    isplitl [Hy1]; · iexact Hy1
    iexact Hy2
  isplitl [Hf0 Hf1 Hf2]
  · isplitl [Hf0]; · iexact Hf0
    isplitl [Hf1]; · iexact Hf1
    iexact Hf2
  isplitl [Hk0 Hk1 Hk2]
  · isplitl [Hk0]; · iexact Hk0
    isplitl [Hk1]; · iexact Hk1
    iexact Hk2
  isplitl [He0 He1 He2]
  · isplitl [He0]; · iexact He0
    isplitl [He1]; · iexact He1
    iexact He2
  isplitl [Ha0 Ha1 Ha2]
  · unfold anyB
    isplitl [Ha0]; · iexists _; iexact Ha0
    isplitl [Ha1]; · iexists _; iexact Ha1
    iexists _; iexact Ha2
  isplitl [Hw Hu]
  · isplitl [Hw]; · iexact Hw
    iexact Hu
  isplitl [Hx]; · iexact Hx
  iexact HO

/-! ## The last waits -/

theorem wp_drain (l : Fin 3) {k : P (F := F) α} {Q : α → sProp 𝕄} :
    iprop(records m K ∗ tri (fun s => flight c (ag l, s)) ∗ tri (fun s => flight c (rs l, s)) ∗ blk c (agSrc l) kept (XL m l c) ∗ ow c [])
      ⊢ iprop(((tri (fun s => zS c (ag l, s)) ∗ tri (fun s => zS c (rs l, s)) ∗ blk c (agSrc l) fullShare (XL m l c) ∗ tri (fun s => anyB c (pS (pj l s))) ∗ ow c [])
            -∗ WP c k Q) -∗ WP c (drain l k) Q) := by
  unfold drain
  iintro ⟨#HR, ⟨Hf0, Hf1, Hf2⟩, ⟨Hg0, Hg1, Hg2⟩, Hx, HO⟩ Hk
  iapply (wp_snt m K c (ag l, 2) []) $$ [Hf2 HO]
  · isplitr; · iexact HR
    isplitl [Hf2]; · iexact Hf2
    iexact HO
  iintro ⟨Hx2, Hz2, HO⟩
  iapply (wp_snt m K c (ag l, 1) []) $$ [Hf1 HO]
  · isplitr; · iexact HR
    isplitl [Hf1]; · iexact Hf1
    iexact HO
  iintro ⟨Hx1, Hz1, HO⟩
  iapply (wp_snt m K c (ag l, 0) []) $$ [Hf0 HO]
  · isplitr; · iexact HR
    isplitl [Hf0]; · iexact Hf0
    iexact HO
  iintro ⟨Hx0, Hz0, HO⟩
  iapply (wp_snt m K c (rs l, 0) []) $$ [Hg0 HO]
  · isplitr; · iexact HR
    isplitl [Hg0]; · iexact Hg0
    iexact HO
  iintro ⟨Hp0, Hy0, HO⟩
  iapply (wp_snt m K c (rs l, 1) []) $$ [Hg1 HO]
  · isplitr; · iexact HR
    isplitl [Hg1]; · iexact Hg1
    iexact HO
  iintro ⟨Hp1, Hy1, HO⟩
  iapply (wp_snt m K c (rs l, 2) []) $$ [Hg2 HO]
  · isplitr; · iexact HR
    isplitl [Hg2]; · iexact Hg2
    iexact HO
  iintro ⟨Hp2, Hy2, HO⟩
  unfold sendPay
  iapply Hk
  isplitl [Hz0 Hz1 Hz2]
  · isplitl [Hz0]; · iexact Hz0
    isplitl [Hz1]; · iexact Hz1
    iexact Hz2
  isplitl [Hy0 Hy1 Hy2]
  · isplitl [Hy0]; · iexact Hy0
    isplitl [Hy1]; · iexact Hy1
    iexact Hy2
  isplitl [Hx0 Hx1 Hx2 Hx]
  · iapply (join4 c (agSrc l) (XL m l c))
    isplitl [Hx0 Hx1 Hx2]
    · isplitl [Hx0]; · iexact Hx0
      isplitl [Hx1]; · iexact Hx1
      iexact Hx2
    iexact Hx
  isplitl [Hp0 Hp1 Hp2]
  · unfold anyB
    isplitl [Hp0]; · iexists _; iexact Hp0
    isplitl [Hp1]; · iexists _; iexact Hp1
    iexists _; iexact Hp2
  iexact HO

/-! ## The output -/

theorem wp_outStep (s : Fin 3) (off : Fin 2 → ℕ) (inb : ∀ a, off a + S64x512.size a ≤ S256x512.size a) (g : FVec F S256x512 .f32)
    {k : P (F := F) α} {Q : α → sProp 𝕄} :
    iprop(records m K ∗ inTok c (ou, s) ∗ ow c [] ∗ (((c : Thread nD τ).loc cc0_stg7_0) ↦{fullShare} g))
      ⊢ iprop(((zR c (ou, s) ∗ anyB c (oS (r3 s)) ∗ ow c [] ∗ (((c : Thread nD τ).loc cc0_stg7_0) ↦{fullShare} (putRows off inb g (X3 m (frm c (ou, s))))))
            -∗ WP c k Q) -∗ WP c (outStep s off inb k) Q) := by
  unfold outStep
  iintro ⟨#HR, Hi, HO, Hg⟩ Hk
  iapply (wp_rcv m K c (ou, s) [] (fun t ht => absurd ht (List.not_mem_nil))) $$ [Hi HO]
  · isplitr; · iexact HR
    isplitl [Hi]; · iexact Hi
    iexact HO
  iintro ⟨Ha, Hz, HO⟩
  unfold recvPay
  icases Ha with ⟨Ha, -⟩
  iapply (wp_ldO c (r3 s) fullShare (X3 m (frm c (ou, s)))) $$ [Ha]
  · iexact Ha
  iintro Ha
  rw [show k0_pay25 (up3 (X3 m (frm c (ou, s)))) = X3 m (frm c (ou, s)) from
    shapeCast_shapeCast (X3 m (frm c (ou, s))) shapeCasts_S64x512_S1x64x512 shapeCasts_S1x64x512_S64x512]
  iapply (wp_stOut c off inb (X3 m (frm c (ou, s))) g) $$ Hg
  iintro Hg
  iapply Hk
  isplitl [Hz]; · iexact Hz
  isplitl [Ha]; · unfold anyB; iexists _; iexact Ha
  isplitl [HO]; · iexact HO
  iexact Hg

/-- The three sends of the result's own block. -/
theorem wp_sendOut (n : Fin 3 → Dev nD) (hn : ∀ s, n s = dst c (ou, s)) {k : P (F := F) α} {Q : α → sProp 𝕄} :
    iprop(records m K ∗ blk c (oS 0) fullShare (X3 m c) ∗ tri (fun s => perm c (ou, s)) ∗ tri (fun s => outTok c (ou, s)) ∗ ow c [(ou, 0), (ou, 1), (ou, 2)])
      ⊢ iprop(((tri (fun s => flight c (ou, s)) ∗ blk c (oS 0) kept (X3 m c) ∗ ow c []) -∗ WP c k Q)
          -∗ WP c (send (ou, 0) (n 0) <| send (ou, 1) (n 1) <| send (ou, 2) (n 2) k) Q) := by
  iintro ⟨#HR, Hx, ⟨Hp0, Hp1, Hp2⟩, ⟨Ht0, Ht1, Ht2⟩, HO⟩ Hk
  ihave Hx := (split4 c (oS 0) (X3 m c)) $$ Hx
  icases Hx with ⟨⟨Hx0, Hx1, Hx2⟩, Hx⟩
  iapply (wp_snd m K c (n 0) (ou, 0) (hn 0) [(ou, 1), (ou, 2)]) $$ [Hx0 Hp0 Ht0 HO]
  · isplitr; · iexact HR
    isplitl [Hx0]; · iexact Hx0
    isplitl [Hp0]; · iexact Hp0
    isplitr; · unfold extraS; iempintro
    isplitl [HO]; · iexact HO
    iexact Ht0
  iintro ⟨Hf0, HO⟩
  iapply (wp_snd m K c (n 1) (ou, 1) (hn 1) [(ou, 2)]) $$ [Hx1 Hp1 Ht1 HO]
  · isplitr; · iexact HR
    isplitl [Hx1]; · iexact Hx1
    isplitl [Hp1]; · iexact Hp1
    isplitr; · unfold extraS; iempintro
    isplitl [HO]; · iexact HO
    iexact Ht1
  iintro ⟨Hf1, HO⟩
  iapply (wp_snd m K c (n 2) (ou, 2) (hn 2) []) $$ [Hx2 Hp2 Ht2 HO]
  · isplitr; · iexact HR
    isplitl [Hx2]; · iexact Hx2
    isplitl [Hp2]; · iexact Hp2
    isplitr; · unfold extraS; iempintro
    isplitl [HO]; · iexact HO
    iexact Ht2
  iintro ⟨Hf2, HO⟩
  iapply Hk
  isplitl [Hf0 Hf1 Hf2]
  · isplitl [Hf0]; · iexact Hf0
    isplitl [Hf1]; · iexact Hf1
    iexact Hf2
  isplitl [Hx]; · iexact Hx
  iexact HO

theorem wp_sentOut {k : P (F := F) α} {Q : α → sProp 𝕄} :
    iprop(records m K ∗ tri (fun s => flight c (ou, s)) ∗ blk c (oS 0) kept (X3 m c) ∗ ow c [])
      ⊢ iprop(((tri (fun s => zS c (ou, s)) ∗ anyB c (oS 0) ∗ ow c []) -∗ WP c k Q)
          -∗ WP c (sent (ou, 0) <| sent (ou, 1) <| sent (ou, 2) k) Q) := by
  iintro ⟨#HR, ⟨Hf0, Hf1, Hf2⟩, Hx, HO⟩ Hk
  iapply (wp_snt m K c (ou, 0) []) $$ [Hf0 HO]
  · isplitr; · iexact HR
    isplitl [Hf0]; · iexact Hf0
    iexact HO
  iintro ⟨Hx0, Hz0, HO⟩
  iapply (wp_snt m K c (ou, 1) []) $$ [Hf1 HO]
  · isplitr; · iexact HR
    isplitl [Hf1]; · iexact Hf1
    iexact HO
  iintro ⟨Hx1, Hz1, HO⟩
  iapply (wp_snt m K c (ou, 2) []) $$ [Hf2 HO]
  · isplitr; · iexact HR
    isplitl [Hf2]; · iexact Hf2
    iexact HO
  iintro ⟨Hx2, Hz2, HO⟩
  unfold sendPay
  iapply Hk
  isplitl [Hz0 Hz1 Hz2]
  · isplitl [Hz0]; · iexact Hz0
    isplitl [Hz1]; · iexact Hz1
    iexact Hz2
  isplitl [Hx0 Hx1 Hx2 Hx]
  · unfold anyB
    iexists (X3 m c)
    iapply (join4 c (oS 0) (X3 m c))
    isplitl [Hx0 Hx1 Hx2]
    · isplitl [Hx0]; · iexact Hx0
      isplitl [Hx1]; · iexact Hx1
      iexact Hx2
    iexact Hx
  iexact HO

end Cert.KernelIdeal.Mlp

end
-- ==== Proof.KernelIdeal.Body.lean ====
/-
The whole body at a symbolic device, from the handshake's grants to the last wait.
-/
module

public import proofs.«01_k».proof.Proof.KernelIdeal.Layer
public import Idealize.ShloMosaic.Lib.ValueIdxCore

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × (Unit ⊕ CK) → ℕ) (c : Dev nD)

/-! ## The result -/

/-- The device a row of the result comes from, and its place in that device's block. -/
def rowDev (i : S256x512.Idx) : Dev nD := ⟨(i 0).val / 64, Nat.div_lt_of_lt_mul (idx2_lt0 i)⟩
def rowIn (i : S256x512.Idx) : S64x512.Idx := ix2 (n0 := 64) (n1 := 512) ⟨(i 0).val % 64, Nat.mod_lt _ (by decide)⟩ (i 1)

/-- The result: block after block of the last layer. -/
def outAt : FVec F S256x512 .f32 := fun i => X3 m (rowDev i) (rowIn i)

theorem putRows_apply (a : Dev nD) (off : Fin 2 → ℕ) (inb : ∀ a, off a + S64x512.size a ≤ S256x512.size a) (hoff : off = ![64 * a.val, 0])
    (g : FVec F S256x512 .f32) (v : B64 F) (i : S256x512.Idx) :
    putRows off inb g v i = if rowDev i = a then v (rowIn i) else g i := by
  subst hoff
  have h0 : (i 0).val < 256 := idx2_lt0 i
  unfold putRows
  split
  · next h =>
    have hd : (i 0).val / 64 = a.val := congrArg Fin.val h
    have he : (outM.access (Rect.unit (s := S256x512) ![64 * a.val, 0] S64x512.size inb)).emb (rowIn i) = i := by
      funext d
      refine Fin.ext ?_
      fin_cases d
      · show 64 * a.val + 1 * ((i 0).val % 64) = (i 0).val
        omega
      · show 0 + 1 * (i 1).val = (i 1).val
        omega
    conv_lhs => rw [← he]
    rw [View.write_emb_of_mem _ _ (Finset.mem_univ _)]
    rfl
  · next h =>
    refine View.write_of_not_mem _ _ _ ?_
    rw [View.setOn_univ]
    intro hm
    rw [show (outM.access (Rect.unit (s := S256x512) ![64 * a.val, 0] S64x512.size inb)).set = (Rect.unit (s := S256x512) ![64 * a.val, 0] S64x512.size inb).set
      from View.set_slice_whole _ _] at hm
    have h1 := Rect.mem_set_unit.mp hm 0
    refine h (Fin.ext ?_)
    have h2 : 64 * a.val ≤ (i 0).val ∧ (i 0).val < 64 * a.val + 64 := h1
    show (i 0).val / 64 = a.val
    omega

theorem dev_cases (a c : Dev nD) : a = c ∨ a = add c 1 ∨ a = add c 2 ∨ a = add c 3 := by revert a c; decide

/-- The four stores of rows fill the result. -/
theorem out_filled (g : FVec F S256x512 .f32) :
    putRows (k0_off2 c 3#32) (k0_off2_inb c 2) (putRows (k0_off2 c 2#32) (k0_off2_inb c 1) (putRows (k0_off2 c 1#32) (k0_off2_inb c 0)
      (putRows (k0_off1 c) (k0_off1_inb c) g (X3 m c)) (X3 m (add c 1))) (X3 m (add c 2))) (X3 m (add c 3)) = outAt m := by
  funext i
  have e1 : k0_off2 c 1#32 = ![64 * (add c 1).val, 0] := k0_off2_eq c 0
  have e2 : k0_off2 c 2#32 = ![64 * (add c 2).val, 0] := k0_off2_eq c 1
  have e3 : k0_off2 c 3#32 = ![64 * (add c 3).val, 0] := k0_off2_eq c 2
  rw [putRows_apply (add c 3) _ _ e3, putRows_apply (add c 2) _ _ e2, putRows_apply (add c 1) _ _ e1, putRows_apply c _ _ (k0_off1_eq c)]
  unfold outAt
  split
  · next h => rw [h]
  split
  · next h => rw [h]
  split
  · next h => rw [h]
  split
  · next h => rw [h]
  next h3 h2 h1 h0 => rcases dev_cases (rowDev i) c with h | h | h | h <;> contradiction

/-! ## A layer's total -/

theorem pay6_eq (w a b d : B64 F) : shapeCast S64x512 (k0_pay6 w (up3 a) (up3 b) (up3 d)) shapeCasts_S1x1x64x512_S64x512 = total w a b d := by
  show shapeCast S64x512 (shapeCast S1x1x64x512 (addf (addf (addf w (shapeCast S64x512 (up3 a) shapeCasts_S1x64x512_S64x512)) (shapeCast S64x512 (up3 b) shapeCasts_S1x64x512_S64x512))
    (shapeCast S64x512 (up3 d) shapeCasts_S1x64x512_S64x512)) shapeCasts_S64x512_S1x1x64x512) shapeCasts_S1x1x64x512_S64x512 = _
  rw [shapeCast_shapeCast, shapeCast_shapeCast, shapeCast_shapeCast, shapeCast_shapeCast]
  rfl
theorem pay23_eq (w a b d : B64 F) : k0_pay23 w (up3 a) (up3 b) (up3 d) = total w a b d := by
  show addf (addf (addf w (shapeCast S64x512 (up3 a) shapeCasts_S1x64x512_S64x512)) (shapeCast S64x512 (up3 b) shapeCasts_S1x64x512_S64x512))
    (shapeCast S64x512 (up3 d) shapeCasts_S1x64x512_S64x512) = _
  rw [shapeCast_shapeCast, shapeCast_shapeCast, shapeCast_shapeCast]
  rfl
theorem pay24_eq (w a b d : B64 F) : shapeCast S64x512 (k0_pay24 w (up3 a) (up3 b) (up3 d)) shapeCasts_S1x64x512_S64x512 = total w a b d := by
  show shapeCast S64x512 (shapeCast S1x64x512 (k0_pay23 w (up3 a) (up3 b) (up3 d)) shapeCasts_S64x512_S1x64x512) shapeCasts_S1x64x512_S64x512 = _
  rw [shapeCast_shapeCast, pay23_eq]
theorem pay1_eq (v : B64 F) : shapeCast S64x512 (k0_pay1 v) shapeCasts_S1x1x64x512_S64x512 = v := by
  show shapeCast S64x512 (shapeCast S1x1x64x512 (shapeCast S64x512 v shapeCasts_S64x512_S64x512) shapeCasts_S64x512_S1x1x64x512) shapeCasts_S1x1x64x512_S64x512 = _
  rw [shapeCast_shapeCast, shapeCast_self]

/-! ## The three layers, each with its own grants -/

section Layers
variable {α : Type} (n : Fin 3 → Dev nD) (q : PosShare TreeShare) (ts : List T)
variable {k : FVec F S64x512 .f32 → Vec F S1x64x512 .f32 → Vec F S1x64x512 .f32 → Vec F S1x64x512 .f32 → P (F := F) α}

/-- What every layer takes, and what it leaves, beside its grants. -/
def layPre (l : Fin 3) : sProp 𝕄 :=
  iprop(tri (fun s => inTok c (ag l, s)) ∗ tri (fun s => inTok c (rs l, s)) ∗ tri (fun s => outTok c (rs l, s)) ∗ tri (fun s => anyB c (pS (pj l s))))
def layPost (l : Fin 3) : sProp 𝕄 :=
  iprop(tri (fun s => zR c (ag l, s)) ∗ tri (fun s => zR c (rs l, s)) ∗ tri (fun s => flight c (rs l, s)) ∗ tri (fun s => anyB c (rS s)))

theorem wp_layer' (l : Fin 3) (hn : ∀ s, n s = dst c (rs l, s)) (h1 : ∀ t ∈ lay l ++ ts, num (ag l) < num t.1) (h2 : ∀ t ∈ ts, num (rs l) < num t.1)
    (G R E : Fin 3 → sProp 𝕄) (hG : ∀ s, G s = perm0 c l s) (hR : ∀ s, keep c l s = R s) (hE : ∀ s, extra c (rs l, s) = E s) {Q : α → sProp 𝕄} :
    iprop(records m K ∗ layPre c l ∗ tri G ∗ wts m c l ∗ blk c (xS (par l) 3) q (XL m l c) ∗ ow c (lay l ++ ts))
      ⊢ iprop(((layPost c l ∗ tri R ∗ tri E ∗ wts m c l ∗ blk c (xS (par l) 3) q (XL m l c) ∗ ow c ts)
            -∗ WP c (k (pv (XL m l c) (wi m l c) (wo m l c)) (up3 (arrived m c l 0)) (up3 (arrived m c l 1)) (up3 (arrived m c l 2))) Q)
          -∗ WP c (layer l n k) Q) := by
  have hR' : R = keep c l := funext fun s => (hR s).symm
  have hE' : E = fun s => extra c (rs l, s) := funext fun s => (hE s).symm
  rw [show G = perm0 c l from funext hG, hR', hE']
  unfold layPre layPost
  iintro ⟨#HR, ⟨Hi, Hj, Ho, Hb⟩, Hp, Hw, Hx, HO⟩ Hk
  iapply (wp_layer m K c l n hn q ts h1 h2) $$ [Hi Hj Ho Hb Hp Hw Hx HO]
  · isplitr; · iexact HR
    isplitl [Hi]; · iexact Hi
    isplitl [Hj]; · iexact Hj
    isplitl [Ho]; · iexact Ho
    isplitl [Hp]; · iexact Hp
    isplitl [Hb]; · iexact Hb
    isplitl [Hw]; · iexact Hw
    isplitl [Hx]; · iexact Hx
    iexact HO
  iintro ⟨Hz, Hy, Hf, Hk', He, Ha, Hw, Hx, HO⟩
  iapply Hk
  isplitl [Hz Hy Hf Ha]
  · isplitl [Hz]; · iexact Hz
    isplitl [Hy]; · iexact Hy
    isplitl [Hf]; · iexact Hf
    iexact Ha
  isplitl [Hk']; · iexact Hk'
  isplitl [He]; · iexact He
  isplitl [Hw]; · iexact Hw
  isplitl [Hx]; · iexact Hx
  iexact HO

theorem num0a : ∀ t ∈ lay 0 ++ (gat 1 ++ (lay 1 ++ (gat 2 ++ (lay 2 ++ [(ou, 0), (ou, 1), (ou, 2)])))), num (ag 0) < num t.1 := by decide
theorem num0b : ∀ t ∈ gat 1 ++ (lay 1 ++ (gat 2 ++ (lay 2 ++ [(ou, 0), (ou, 1), (ou, 2)]))), num (rs 0) < num t.1 := by decide
theorem num1a : ∀ t ∈ lay 1 ++ (gat 2 ++ (lay 2 ++ [(ou, 0), (ou, 1), (ou, 2)])), num (ag 1) < num t.1 := by decide
theorem num1b : ∀ t ∈ gat 2 ++ (lay 2 ++ [(ou, 0), (ou, 1), (ou, 2)]), num (rs 1) < num t.1 := by decide
theorem num2a : ∀ t ∈ lay 2 ++ [(ou, 0), (ou, 1), (ou, 2)], num (ag 2) < num t.1 := by decide
theorem num2b : ∀ t ∈ [((ou, 0) : T), (ou, 1), (ou, 2)], num (rs 2) < num t.1 := by decide

theorem keep0 (s : Fin 3) : keep (F := F) c 0 s = iprop(emp) := if_pos rfl
theorem keep1 (s : Fin 3) : keep (F := F) c 1 s = anyB c (xS 1 s.castSucc) := rfl
theorem keep2 (s : Fin 3) : keep (F := F) c 2 s = anyB c (xS 0 s.castSucc) := rfl
theorem perm0_0 (s : Fin 3) : perm (F := F) c (rs 0, s) = perm0 c 0 s := rfl
theorem perm0_1 (s : Fin 3) : (iprop(emp) : sProp 𝕄) = perm0 (F := F) c 1 s := rfl
theorem perm0_2 (s : Fin 3) : (iprop(emp) : sProp 𝕄) = perm0 (F := F) c 2 s := rfl
theorem extra0 (s : Fin 3) : extra (F := F) c (rs 0, s) = perm c (ag 2, s) := rfl
theorem extra1 (s : Fin 3) : extra (F := F) c (rs 1, s) = iprop(emp) := rfl
theorem extra2 (s : Fin 3) : extra (F := F) c (rs 2, s) = iprop(emp) := rfl

end Layers

/-! ## From the handshake to the end -/

/-- What a device has of every transfer: the transfers, kind by kind. -/
abbrev allT (Φ : T → sProp 𝕄) : sProp 𝕄 :=
  iprop((tri (fun s => Φ (ag 0, s)) ∗ tri (fun s => Φ (ag 1, s)) ∗ tri (fun s => Φ (ag 2, s)))
    ∗ (tri (fun s => Φ (rs 0, s)) ∗ tri (fun s => Φ (rs 1, s)) ∗ tri (fun s => Φ (rs 2, s))) ∗ tri (fun s => Φ (ou, s)))
/-- The scratch buffers, block by block, whatever they hold. -/
def scr : sProp 𝕄 :=
  iprop((tri (fun s => anyB c (xS 0 s.castSucc)) ∗ anyB c (xS 0 3)) ∗ (tri (fun s => anyB c (xS 1 s.castSucc)) ∗ anyB c (xS 1 3)) ∗ tri (fun s => anyB c (rS s))
    ∗ (tri (fun s => anyB c (pS (pj 0 s))) ∗ tri (fun s => anyB c (pS (pj 1 s))) ∗ tri (fun s => anyB c (pS (pj 2 s)))) ∗ (anyB c (oS 0) ∗ tri (fun s => anyB c (oS (r3 s)))))

theorem wp_rest (g : FVec F S256x512 .f32) {Q : PUnit → sProp 𝕄} :
    iprop(records m K ∗ blk c xM fullShare (xin m c) ∗ wts m c 0 ∗ wts m c 1 ∗ wts m c 2 ∗ (((c : Thread nD τ).loc cc0_stg7_0) ↦{fullShare} g)
        ∗ allT (outTok c) ∗ allT (inTok c)
        ∗ tri (fun s => perm c (ag 0, s)) ∗ tri (fun s => perm c (ag 1, s)) ∗ tri (fun s => perm c (rs 0, s)) ∗ tri (fun s => perm c (ou, s))
        ∗ anyB c (xS 0 3) ∗ anyB c (xS 1 3)
        ∗ (tri (fun s => anyB c (pS (pj 0 s))) ∗ tri (fun s => anyB c (pS (pj 1 s))) ∗ tri (fun s => anyB c (pS (pj 2 s)))) ∗ anyB c (oS 0) ∗ ow c ordL)
      ⊢ iprop(((blk c xM fullShare (xin m c) ∗ wts m c 0 ∗ wts m c 1 ∗ wts m c 2 ∗ (((c : Thread nD τ).loc cc0_stg7_0) ↦{fullShare} outAt m)
          ∗ allT (zS c) ∗ allT (zR c) ∗ scr c ∗ ow c []) -∗ Q ⟨⟩) -∗ WP c (rest c) Q) := by
  unfold rest
  iintro ⟨#HR, Hx, Hw0, Hw1, Hw2, Hg, ⟨⟨Hta0, Hta1, Hta2⟩, ⟨Htr0, Htr1, Htr2⟩, Hto⟩, ⟨⟨Hia0, Hia1, Hia2⟩, ⟨Hir0, Hir1, Hir2⟩, Hio⟩,
    Hpa0, Hpa1, Hpr0, Hpo, Hx03, Hx13, ⟨Hp0, Hp1, Hp2⟩, Ho0, HO⟩ Hk
  iapply (wp_ldXin c fullShare (xin m c)) $$ Hx
  iintro Hx
  iapply (wp_stX c 0 3 _ (XL m 0 c) (pay1_eq _)) $$ Hx03
  iintro Hx03
  -- layer 0
  iapply (wp_gather m K c 0 _ (tgt_eq c (ag 0)) (lay 0 ++ (gat 1 ++ (lay 1 ++ (gat 2 ++ (lay 2 ++ [(ou, 0), (ou, 1), (ou, 2)])))))) $$ [Hx Hpa0 Hta0 HO]
  · isplitr; · iexact HR
    isplitl [Hx]; · iexact Hx
    isplitl [Hpa0]; · iexact Hpa0
    isplitr
    · unfold extraS
      isplitr; · iempintro
      isplitr; · iempintro
      iempintro
    isplitl [Hta0]; · iexact Hta0
    iexact HO
  iintro ⟨Hfa0, Hx, HO⟩
  iapply (wp_layer' m K c _ fullShare (gat 1 ++ (lay 1 ++ (gat 2 ++ (lay 2 ++ [(ou, 0), (ou, 1), (ou, 2)])))) 0 (tgt_eq c (rs 0)) num0a num0b
    (fun s => perm c (rs 0, s)) (fun _ => iprop(emp)) (fun s => perm c (ag 2, s)) (perm0_0 c) (keep0 c) (extra0 c)) $$ [Hia0 Hir0 Htr0 Hp0 Hpr0 Hw0 Hx03 HO]
  · isplitr; · iexact HR
    isplitl [Hia0 Hir0 Htr0 Hp0]
    · unfold layPre
      isplitl [Hia0]; · iexact Hia0
      isplitl [Hir0]; · iexact Hir0
      isplitl [Htr0]; · iexact Htr0
      iexact Hp0
    isplitl [Hpr0]; · iexact Hpr0
    isplitl [Hw0]; · iexact Hw0
    isplitl [Hx03]; · iexact Hx03
    iexact HO
  unfold layPost
  iintro ⟨⟨Hza0, Hzr0, Hfr0, Hr⟩, -, Hpa2, Hw0, Hx03, HO⟩
  iapply (wp_stX c 1 3 _ (XL m 1 c) (pay6_eq _ _ _ _)) $$ Hx13
  iintro Hx13
  -- layer 1
  iapply (wp_gather m K c 1 _ (tgt_eq c (ag 1)) (lay 1 ++ (gat 2 ++ (lay 2 ++ [(ou, 0), (ou, 1), (ou, 2)])))) $$ [Hx13 Hpa1 Hr Hta1 HO]
  · isplitr; · iexact HR
    isplitl [Hx13]; · iexact Hx13
    isplitl [Hpa1]; · iexact Hpa1
    isplitl [Hr]; · iexact Hr
    isplitl [Hta1]; · iexact Hta1
    iexact HO
  iintro ⟨Hfa1, Hx13, HO⟩
  iapply (wp_layer' m K c _ kept (gat 2 ++ (lay 2 ++ [(ou, 0), (ou, 1), (ou, 2)])) 1 (tgt_eq c (rs 1)) num1a num1b
    (fun _ => iprop(emp)) (fun s => anyB c (xS 1 s.castSucc)) (fun _ => iprop(emp)) (perm0_1 c) (keep1 c) (extra1 c)) $$ [Hia1 Hir1 Htr1 Hp1 Hw1 Hx13 HO]
  · isplitr; · iexact HR
    isplitl [Hia1 Hir1 Htr1 Hp1]
    · unfold layPre
      isplitl [Hia1]; · iexact Hia1
      isplitl [Hir1]; · iexact Hir1
      isplitl [Htr1]; · iexact Htr1
      iexact Hp1
    isplitr
    · isplitr; · iempintro
      isplitr; · iempintro
      iempintro
    isplitl [Hw1]; · iexact Hw1
    isplitl [Hx13]; · iexact Hx13
    iexact HO
  unfold layPost
  iintro ⟨⟨Hza1, Hzr1, Hfr1, Hr⟩, Hx1, -, Hw1, Hx13, HO⟩
  iapply (wp_stX c 0 3 _ (XL m 2 c) (pay6_eq _ _ _ _)) $$ [Hx03]
  · unfold anyB; iexists _; iexact Hx03
  iintro Hx03
  -- layer 2
  iapply (wp_gather m K c 2 _ (tgt_eq c (ag 2)) (lay 2 ++ [(ou, 0), (ou, 1), (ou, 2)])) $$ [Hx03 Hpa2 Hr Hta2 HO]
  · isplitr; · iexact HR
    isplitl [Hx03]; · iexact Hx03
    isplitl [Hpa2]; · iexact Hpa2
    isplitl [Hr]; · iexact Hr
    isplitl [Hta2]; · iexact Hta2
    iexact HO
  iintro ⟨Hfa2, Hx03, HO⟩
  iapply (wp_layer' m K c _ kept [(ou, 0), (ou, 1), (ou, 2)] 2 (tgt_eq c (rs 2)) num2a num2b
    (fun _ => iprop(emp)) (fun s => anyB c (xS 0 s.castSucc)) (fun _ => iprop(emp)) (perm0_2 c) (keep2 c) (extra2 c)) $$ [Hia2 Hir2 Htr2 Hp2 Hw2 Hx03 HO]
  · isplitr; · iexact HR
    isplitl [Hia2 Hir2 Htr2 Hp2]
    · unfold layPre
      isplitl [Hia2]; · iexact Hia2
      isplitl [Hir2]; · iexact Hir2
      isplitl [Htr2]; · iexact Htr2
      iexact Hp2
    isplitr
    · isplitr; · iempintro
      isplitr; · iempintro
      iempintro
    isplitl [Hw2]; · iexact Hw2
    isplitl [Hx03]; · iexact Hx03
    iexact HO
  unfold layPost
  iintro ⟨⟨Hza2, Hzr2, Hfr2, Hr⟩, Hx0, -, Hw2, Hx03, HO⟩
  -- the output
  iapply (wp_stO c 0 _ (X3 m c) (pay24_eq _ _ _ _)) $$ Ho0
  iintro Ho0
  iapply (wp_sendOut m K c _ (tgt_eq c ou)) $$ [Ho0 Hpo Hto HO]
  · isplitr; · iexact HR
    isplitl [Ho0]; · iexact Ho0
    isplitl [Hpo]; · iexact Hpo
    isplitl [Hto]; · iexact Hto
    iexact HO
  iintro ⟨Hfo, Ho0, HO⟩
  rw [pay23_eq]
  iapply (wp_stOut c _ _ _ g) $$ Hg
  iintro Hg
  icases Hio with ⟨Hio0, Hio1, Hio2⟩
  iapply (wp_outStep m K c 2 _ _ _) $$ [Hio2 HO Hg]
  · isplitr; · iexact HR
    isplitl [Hio2]; · iexact Hio2
    isplitl [HO]; · iexact HO
    iexact Hg
  iintro ⟨Hzo2, Ho1, HO, Hg⟩
  iapply (wp_outStep m K c 1 _ _ _) $$ [Hio1 HO Hg]
  · isplitr; · iexact HR
    isplitl [Hio1]; · iexact Hio1
    isplitl [HO]; · iexact HO
    iexact Hg
  iintro ⟨Hzo1, Ho2, HO, Hg⟩
  iapply (wp_outStep m K c 0 _ _ _) $$ [Hio0 HO Hg]
  · isplitr; · iexact HR
    isplitl [Hio0]; · iexact Hio0
    isplitl [HO]; · iexact HO
    iexact Hg
  iintro ⟨Hzo0, Ho3, HO, Hg⟩
  ihave Hg := (Entails.of_eq (congrArg (fun f => (((c : Thread nD τ).loc cc0_stg7_0) ↦{fullShare} f : sProp 𝕄)) (out_filled m c g))) $$ [Hg]
  · iexact Hg
  -- the last waits
  iapply (wp_drain m K c 0) $$ [Hfa0 Hfr0 Hx HO]
  · isplitr; · iexact HR
    isplitl [Hfa0]; · iexact Hfa0
    isplitl [Hfr0]; · iexact Hfr0
    isplitl [Hx]; · iexact Hx
    iexact HO
  iintro ⟨Hsa0, Hsr0, Hx, Hp0, HO⟩
  iapply (wp_drain m K c 1) $$ [Hfa1 Hfr1 Hx13 HO]
  · isplitr; · iexact HR
    isplitl [Hfa1]; · iexact Hfa1
    isplitl [Hfr1]; · iexact Hfr1
    isplitl [Hx13]; · iexact Hx13
    iexact HO
  iintro ⟨Hsa1, Hsr1, Hx13, Hp1, HO⟩
  iapply (wp_drain m K c 2) $$ [Hfa2 Hfr2 Hx03 HO]
  · isplitr; · iexact HR
    isplitl [Hfa2]; · iexact Hfa2
    isplitl [Hfr2]; · iexact Hfr2
    isplitl [Hx03]; · iexact Hx03
    iexact HO
  iintro ⟨Hsa2, Hsr2, Hx03, Hp2, HO⟩
  iapply (wp_sentOut m K c) $$ [Hfo Ho0 HO]
  · isplitr; · iexact HR
    isplitl [Hfo]; · iexact Hfo
    isplitl [Ho0]; · iexact Ho0
    iexact HO
  iintro ⟨Hso, Ho0, HO⟩
  iapply (le_wp_ret _ _)
  iapply Hk
  isplitl [Hx]; · iexact Hx
  isplitl [Hw0]; · iexact Hw0
  isplitl [Hw1]; · iexact Hw1
  isplitl [Hw2]; · iexact Hw2
  isplitl [Hg]; · iexact Hg
  isplitl [Hsa0 Hsa1 Hsa2 Hsr0 Hsr1 Hsr2 Hso]
  · isplitl [Hsa0 Hsa1 Hsa2]
    · isplitl [Hsa0]; · iexact Hsa0
      isplitl [Hsa1]; · iexact Hsa1
      iexact Hsa2
    isplitl [Hsr0 Hsr1 Hsr2]
    · isplitl [Hsr0]; · iexact Hsr0
      isplitl [Hsr1]; · iexact Hsr1
      iexact Hsr2
    iexact Hso
  isplitl [Hza0 Hza1 Hza2 Hzr0 Hzr1 Hzr2 Hzo0 Hzo1 Hzo2]
  · isplitl [Hza0 Hza1 Hza2]
    · isplitl [Hza0]; · iexact Hza0
      isplitl [Hza1]; · iexact Hza1
      iexact Hza2
    isplitl [Hzr0 Hzr1 Hzr2]
    · isplitl [Hzr0]; · iexact Hzr0
      isplitl [Hzr1]; · iexact Hzr1
      iexact Hzr2
    isplitl [Hzo0]; · iexact Hzo0
    isplitl [Hzo1]; · iexact Hzo1
    iexact Hzo2
  isplitr [HO]
  · unfold scr
    isplitl [Hx0 Hx03]
    · isplitl [Hx0]; · iexact Hx0
      unfold anyB; iexists _; iexact Hx03
    isplitl [Hx1 Hx13]
    · isplitl [Hx1]; · iexact Hx1
      unfold anyB; iexists _; iexact Hx13
    isplitl [Hr]; · iexact Hr
    isplitl [Hp0 Hp1 Hp2]
    · isplitl [Hp0]; · iexact Hp0
      isplitl [Hp1]; · iexact Hp1
      iexact Hp2
    isplitl [Ho0]; · iexact Ho0
    isplitl [Ho3]; · iexact Ho3
    isplitl [Ho2]; · iexact Ho2
    iexact Ho1
  iexact HO

end Cert.KernelIdeal.Mlp

end
-- ==== Proof.KernelIdeal.Scratch.lean ====
/-
The scratch buffers, whole and block by block.
-/
module

public import proofs.«01_k».proof.Proof.KernelIdeal.Body

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

theorem anyB_eq (M : Blk) : (anyB (F := F) c M : sProp 𝕄) = iprop(∃ f : Buf (Elt F) (M.view.loc (c : Thread nD τ)), M.view.loc (c : Thread nD τ) ↦[M.view.set]{fullShare} f) := by
  unfold anyB blk owns
  refine BI.equiv_iff.mp ⟨show (_ : sProp 𝕄) ⊢ _ from ?_, show (_ : sProp 𝕄) ⊢ _ from ?_⟩
  · iintro ⟨%X, %f, -, H⟩
    iexists f; iexact H
  · iintro ⟨%f, H⟩
    iexists _; iexists f
    isplitr; · (ipureintro; rfl)
    iexact H

section Slots
variable {sh : Shape} (M : Memref sig .tc .vmem sh .f32) {I : Type} [Fintype I] [DecidableEq I] (r : I → Rect sh) (hr : ∀ i a, (r i).stride a = 1)
  (sq : ∀ i, (r i).shape.Squeezes S64x512) (who : sh.Idx → I) (hown : ∀ i x, x ∈ (r i).set ↔ who x = i)

include hown in
theorem slots_set : M.view.set = (Finset.univ : Finset I).biUnion fun i => (M.view.slice (r i)).set := by
  ext x; constructor
  · intro hx
    rw [View.set, Finset.mem_map] at hx
    obtain ⟨y, -, rfl⟩ := hx
    exact Finset.mem_biUnion.mpr ⟨who y, Finset.mem_univ _, by rw [View.set_slice]; exact Finset.mem_map_of_mem _ ((hown _ y).mpr rfl)⟩
  · intro hx
    obtain ⟨i, -, hx⟩ := Finset.mem_biUnion.mp hx
    exact View.set_slice_subset _ _ hx
include hown in
theorem slots_disjoint (i j : I) (h : i ≠ j) : Disjoint (M.view.slice (r i)).set (M.view.slice (r j)).set := by
  rw [View.set_slice, View.set_slice]
  refine (Finset.disjoint_map _).mpr (Finset.disjoint_left.mpr fun x hi hj => h ?_)
  rw [← (hown i x).mp hi, (hown j x).mp hj]

theorem slot_any (i : I) : (anyB (F := F) c ((M.slice (r i) (hr i)).squeeze S64x512 (sq i)) : sProp 𝕄)
    = iprop(∃ f : Buf (Elt F) (M.view.loc (c : Thread nD τ)), M.view.loc (c : Thread nD τ) ↦[(M.view.slice (r i)).set]{fullShare} f) := by
  rw [anyB_eq]
  have h : ((M.slice (r i) (hr i)).squeeze S64x512 (sq i)).view.set = (M.view.slice (r i)).set := View.set_reshape _ _
  rw [h]

include hown in
/-- A buffer is its blocks; -/
theorem slots_split : iprop(∃ f : Buf (Elt F) (M.view.loc (c : Thread nD τ)), M.view.loc (c : Thread nD τ) ↦[M.view.set]{fullShare} f)
    ⊢ (bigSep Finset.univ fun i => anyB (F := F) c ((M.slice (r i) (hr i)).squeeze S64x512 (sq i)) : sProp 𝕄) := by
  have h1 (f : Buf (Elt F) (M.view.loc (c : Thread nD τ))) (i : I) : (M.view.loc (c : Thread nD τ) ↦[(M.view.slice (r i)).set]{fullShare} f : sProp 𝕄)
      ⊢ iprop(∃ f : Buf (Elt F) (M.view.loc (c : Thread nD τ)), M.view.loc (c : Thread nD τ) ↦[(M.view.slice (r i)).set]{fullShare} f) := by
    iintro H; iexists f; iexact H
  have h2 (f : Buf (Elt F) (M.view.loc (c : Thread nD τ))) : (M.view.loc (c : Thread nD τ) ↦[M.view.set]{fullShare} f : sProp 𝕄)
      ⊢ (bigSep Finset.univ fun i => anyB (F := F) c ((M.slice (r i) (hr i)).squeeze S64x512 (sq i)) : sProp 𝕄) := by
    rw [bigSep_congr fun i _ => slot_any c M r hr sq i, slots_set M r who hown, pointsTo_biUnion _ _ fun i _ j _ h => slots_disjoint M r who hown i j h]
    exact bigSep_mono fun i _ => h1 f i
  iintro ⟨%f, H⟩
  iapply (h2 f)
  iexact H
include hown in
/-- and back. -/
theorem slots_join : (bigSep Finset.univ fun i => anyB (F := F) c ((M.slice (r i) (hr i)).squeeze S64x512 (sq i)) : sProp 𝕄)
    ⊢ iprop(∃ f : Buf (Elt F) (M.view.loc (c : Thread nD τ)), M.view.loc (c : Thread nD τ) ↦[M.view.set]{fullShare} f) := by
  rw [bigSep_congr fun i _ => slot_any c M r hr sq i, slots_set M r who hown]
  refine (BI.bigSep_exists_pi Finset.univ (fun i (f : Buf (Elt F) (M.view.loc (c : Thread nD τ))) =>
    (M.view.loc (c : Thread nD τ) ↦[(M.view.slice (r i)).set]{fullShare} f : sProp 𝕄))).trans ?_
  iintro ⟨%fs, H⟩
  ihave H := (pointsTo_biUnion_join Finset.univ (fun i => (M.view.slice (r i)).set) fs (fun _ => Classical.arbitrary _)
    fun i _ j _ h => slots_disjoint M r who hown i j h) $$ H
  icases H with ⟨%g, -, H⟩
  iexists g; iexact H

end Slots

/-! ## The four buffers -/

theorem own4 (i : Fin 2 × Fin 4) (x : S2x4x64x512.Idx) : x ∈ (xR i.1 i.2).set ↔ ((x 0, x 1) : Fin 2 × Fin 4) = i := by
  rw [Rect.mem_set_unit]
  have h2 : (x 2).val < 64 := (x 2).isLt
  have h3 : (x 3).val < 512 := (x 3).isLt
  constructor
  · intro h
    have a0 : i.1.val ≤ (x 0).val ∧ (x 0).val < i.1.val + 1 := h 0
    have a1 : i.2.val ≤ (x 1).val ∧ (x 1).val < i.2.val + 1 := h 1
    exact Prod.ext (Fin.ext (by show (x 0).val = _; omega)) (Fin.ext (by show (x 1).val = _; omega))
  · rintro rfl a
    fin_cases a
    · show (x 0).val ≤ (x 0).val ∧ (x 0).val < (x 0).val + 1; omega
    · show (x 1).val ≤ (x 1).val ∧ (x 1).val < (x 1).val + 1; omega
    · show 0 ≤ (x 2).val ∧ (x 2).val < 0 + 64; omega
    · show 0 ≤ (x 3).val ∧ (x 3).val < 0 + 512; omega
theorem own3 (n : ℕ) (i : Fin n) (x : (⟨3, ![n, 64, 512]⟩ : Shape).Idx) (inb) :
    x ∈ (Rect.unit (s := ⟨3, ![n, 64, 512]⟩) ![i.val, 0, 0] S1x64x512.size inb).set ↔ (x 0 : Fin n) = i := by
  rw [Rect.mem_set_unit]
  have h1 : (x 1).val < 64 := (x 1).isLt
  have h2 : (x 2).val < 512 := (x 2).isLt
  constructor
  · intro h
    have a0 : i.val ≤ (x 0).val ∧ (x 0).val < i.val + 1 := h 0
    exact Fin.ext (by omega)
  · rintro rfl a
    fin_cases a
    · show (x 0).val ≤ (x 0).val ∧ (x 0).val < (x 0).val + 1; omega
    · show 0 ≤ (x 1).val ∧ (x 1).val < 0 + 64; omega
    · show 0 ≤ (x 2).val ∧ (x 2).val < 0 + 512; omega

/-- The four scratch buffers, whole, whatever they hold. -/
def scrW : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem whole_any (b : Ref sig .tc) : iprop(∃ f : Buf (Elt F) ((c : Thread nD τ).loc b), ((c : Thread nD τ).loc b) ↦{fullShare} f)
    = (iprop(∃ f : Buf (Elt F) ((Memref.whole b).view.loc (c : Thread nD τ)), (Memref.whole b).view.loc (c : Thread nD τ) ↦[(Memref.whole b).view.set]{fullShare} f) : sProp 𝕄) := by
  simp only [Memref.view_whole, View.set_whole]

theorem x_eq : (iprop(∃ f : Buf (Elt F) ((c : Thread nD τ).loc cc0_scratch0), ((c : Thread nD τ).loc cc0_scratch0) ↦{fullShare} f) : sProp 𝕄)
    = bigSep Finset.univ fun i : Fin 2 × Fin 4 => anyB c (xS i.1 i.2) := by
  rw [whole_any]
  exact BI.equiv_iff.mp ⟨slots_split (F := F) c xbM (I := Fin 2 × Fin 4) (fun i => xR i.1 i.2) (fun _ _ => rfl) (fun _ => squeezes_S1x1x64x512_S64x512) (fun x => ((x 0, x 1) : Fin 2 × Fin 4)) own4,
    slots_join (F := F) c xbM (I := Fin 2 × Fin 4) (fun i => xR i.1 i.2) (fun _ _ => rfl) (fun _ => squeezes_S1x1x64x512_S64x512) (fun x => ((x 0, x 1) : Fin 2 × Fin 4)) own4⟩
theorem r_eq : (iprop(∃ f : Buf (Elt F) ((c : Thread nD τ).loc cc0_scratch1), ((c : Thread nD τ).loc cc0_scratch1) ↦{fullShare} f) : sProp 𝕄)
    = bigSep Finset.univ fun i : Fin 3 => anyB c (rS i) := by
  rw [whole_any]
  exact BI.equiv_iff.mp ⟨slots_split c rbM rR (fun _ _ => rfl) (fun _ => squeezes_S1x64x512_S64x512) (fun x => x 0) fun i x => own3 3 i x _,
    slots_join c rbM rR (fun _ _ => rfl) (fun _ => squeezes_S1x64x512_S64x512) (fun x => x 0) fun i x => own3 3 i x _⟩
theorem p_eq : (iprop(∃ f : Buf (Elt F) ((c : Thread nD τ).loc cc0_scratch2), ((c : Thread nD τ).loc cc0_scratch2) ↦{fullShare} f) : sProp 𝕄)
    = bigSep Finset.univ fun i : Fin 9 => anyB c (pS i) := by
  rw [whole_any]
  exact BI.equiv_iff.mp ⟨slots_split c pbM pR (fun _ _ => rfl) (fun _ => squeezes_S1x64x512_S64x512) (fun x => x 0) fun i x => own3 9 i x _,
    slots_join c pbM pR (fun _ _ => rfl) (fun _ => squeezes_S1x64x512_S64x512) (fun x => x 0) fun i x => own3 9 i x _⟩
theorem o_eq : (iprop(∃ f : Buf (Elt F) ((c : Thread nD τ).loc cc0_scratch3), ((c : Thread nD τ).loc cc0_scratch3) ↦{fullShare} f) : sProp 𝕄)
    = bigSep Finset.univ fun i : Fin 4 => anyB c (oS i) := by
  rw [whole_any]
  exact BI.equiv_iff.mp ⟨slots_split c obM oR (fun _ _ => rfl) (fun _ => squeezes_S1x64x512_S64x512) (fun x => x 0) fun i x => own3 4 i x _,
    slots_join c obM oR (fun _ _ => rfl) (fun _ => squeezes_S1x64x512_S64x512) (fun x => x 0) fun i x => own3 4 i x _⟩

theorem sep2 (Φ : Fin 2 → sProp 𝕄) : bigSep Finset.univ Φ = iprop(Φ 0 ∗ Φ 1) := bigSep_univ_eq_bigSepL [0, 1] (by decide) (by decide) Φ
theorem sep3 (Φ : Fin 3 → sProp 𝕄) : bigSep Finset.univ Φ = iprop(Φ 0 ∗ Φ 1 ∗ Φ 2) := bigSep_univ_eq_bigSepL [0, 1, 2] (by decide) (by decide) Φ
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The scratch buffers are their blocks. -/
theorem scr_eq : scrW (F := F) c = scr c := by
  unfold scrW scr
  rw [x_eq, r_eq, p_eq, o_eq, bigSep_univ_prod, sep2, sep4, sep4, sep3, sep9, sep4]
  refine BI.equiv_iff.mp ⟨show (_ : sProp 𝕄) ⊢ _ from ?_, show (_ : sProp 𝕄) ⊢ _ from ?_⟩
  · iintro ⟨⟨⟨Ha0, Ha1, Ha2, Ha3⟩, ⟨Hb0, Hb1, Hb2, Hb3⟩⟩, ⟨Hr0, Hr1, Hr2⟩, ⟨Hp0, Hp1, Hp2, Hp3, Hp4, Hp5, Hp6, Hp7, Hp8⟩, ⟨Ho0, Ho1, Ho2, Ho3⟩⟩
    isplitl [Ha0 Ha1 Ha2 Ha3]
    · isplitl [Ha0 Ha1 Ha2]
      · isplitl [Ha0]; · iexact Ha0
        isplitl [Ha1]; · iexact Ha1
        iexact Ha2
      iexact Ha3
    isplitl [Hb0 Hb1 Hb2 Hb3]
    · isplitl [Hb0 Hb1 Hb2]
      · isplitl [Hb0]; · iexact Hb0
        isplitl [Hb1]; · iexact Hb1
        iexact Hb2
      iexact Hb3
    isplitl [Hr0 Hr1 Hr2]
    · isplitl [Hr0]; · iexact Hr0
      isplitl [Hr1]; · iexact Hr1
      iexact Hr2
    isplitl [Hp0 Hp1 Hp2 Hp3 Hp4 Hp5 Hp6 Hp7 Hp8]
    · isplitl [Hp0 Hp1 Hp2]
      · isplitl [Hp0]; · iexact Hp0
        isplitl [Hp1]; · iexact Hp1
        iexact Hp2
      isplitl [Hp3 Hp4 Hp5]
      · isplitl [Hp3]; · iexact Hp3
        isplitl [Hp4]; · iexact Hp4
        iexact Hp5
      isplitl [Hp6]; · iexact Hp6
      isplitl [Hp7]; · iexact Hp7
      iexact Hp8
    isplitl [Ho0]; · iexact Ho0
    isplitl [Ho3]; · iexact Ho3
    isplitl [Ho2]; · iexact Ho2
    iexact Ho1
  · iintro ⟨⟨⟨Ha0, Ha1, Ha2⟩, Ha3⟩, ⟨⟨Hb0, Hb1, Hb2⟩, Hb3⟩, ⟨Hr0, Hr1, Hr2⟩, ⟨⟨Hp0, Hp1, Hp2⟩, ⟨Hp3, Hp4, Hp5⟩, Hp6, Hp7, Hp8⟩, ⟨Ho0, Ho3, Ho2, Ho1⟩⟩
    isplitl [Ha0 Ha1 Ha2 Ha3 Hb0 Hb1 Hb2 Hb3]
    · isplitl [Ha0 Ha1 Ha2 Ha3]
      · isplitl [Ha0]; · iexact Ha0
        isplitl [Ha1]; · iexact Ha1
        isplitl [Ha2]; · iexact Ha2
        iexact Ha3
      isplitl [Hb0]; · iexact Hb0
      isplitl [Hb1]; · iexact Hb1
      isplitl [Hb2]; · iexact Hb2
      iexact Hb3
    isplitl [Hr0 Hr1 Hr2]
    · isplitl [Hr0]; · iexact Hr0
      isplitl [Hr1]; · iexact Hr1
      iexact Hr2
    isplitl [Hp0 Hp1 Hp2 Hp3 Hp4 Hp5 Hp6 Hp7 Hp8]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      isplitl [Hp7]; · iexact Hp7
      iexact Hp8
    isplitl [Ho0]; · iexact Ho0
    isplitl [Ho1]; · iexact Ho1
    isplitl [Ho2]; · iexact Ho2
    iexact Ho3

end Cert.KernelIdeal.Mlp

end
-- ==== Proof.KernelIdeal.Run.lean ====
/-
The launch: the cells and tokens dealt out, the credits, the body on every device, the run.
-/
module

public import proofs.«01_k».proof.Proof.KernelIdeal.Scratch
public import Idealize.ShloMosaic.Lib.Pipeline.CollectiveSegs

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Families taken apart -/

theorem sepB (Φ : Bool → sProp 𝕄) : bigSep Finset.univ Φ = iprop(Φ false ∗ Φ true) := bigSep_univ_eq_bigSepL [false, true] (by decide) (by decide) Φ
theorem sepU (Φ : Unit → sProp 𝕄) : bigSep Finset.univ Φ = Φ () := bigSep_univ_eq_bigSepL [()] (by decide) (by decide) Φ
theorem sepT (Φ : T → sProp 𝕄) : bigSep Finset.univ Φ = allT Φ := by
  rw [bigSep_univ_prod, BI.bigSep_univ_sum, BI.bigSep_univ_sum, sepU, sep3, sep3]
  simp only [sep3]
  rfl
theorem sepSum {I J : Type} [Fintype I] [Fintype J] [DecidableEq I] [DecidableEq J] (Φ : I ⊕ J → sProp 𝕄) :
    bigSep Finset.univ Φ = iprop((bigSep Finset.univ fun i => Φ (.inl i)) ∗ bigSep Finset.univ fun j => Φ (.inr j)) := BI.bigSep_univ_sum Φ
theorem sepCK (Φ : CK → sProp 𝕄) : bigSep Finset.univ Φ = iprop(allT (fun t => Φ (false, t)) ∗ allT (fun t => Φ (true, t))) := by
  rw [bigSep_univ_prod, sepB, sepT, sepT]

/-! ## What a device holds before and after the body -/

/-- Before: the records, its part of the handshake, the tokens of every transfer it sends and receives. -/
def start (c : Dev nD) : sProp 𝕄 := iprop(∃ K, records m K ∗ barTok c ∗ allT (outTok c) ∗ allT (inTok c))
def Φ₀ (c : Dev nD) : sProp 𝕄 := iprop(start m c ∗ scr c)
/-- After: the scratch buffers and every cell at zero. -/
def Φ₁ (c : Dev nD) : sProp 𝕄 := iprop(scr (F := F) c ∗ semVal (barCell c) 0 ∗ allT (zS c) ∗ allT (zR c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wi m 0 c
    | ⟨2, _⟩ => wo m 0 c
    | ⟨3, _⟩ => wi m 1 c
    | ⟨4, _⟩ => wo m 1 c
    | ⟨5, _⟩ => wi m 2 c
    | ⟨6, _⟩ => wo m 2 c
    | ⟨7, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-! ## The body -/

section Body
variable (c : Dev nD)

/-- A staging buffer whole at contents. -/
abbrev stg (b : Ref sig .tc) (X : b.ty.Contents (Elt F)) : sProp 𝕄 := owns (c : Thread nD τ) (Memref.whole b) fullShare X

def bodyPre : sProp 𝕄 :=
  iprop(Φ₀ m c ∗ (dats m ρ 0 c).owesAt () t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))
def bodyPost : sProp 𝕄 :=
  iprop(Φ₁ c ∗ (dats m ρ 0 c).owesAt () t₀.succ
    ∗ stg c cc0_stg0_0 (xin m c) ∗ stg c cc0_stg1_0 (wi m 0 c) ∗ stg c cc0_stg2_0 (wo m 0 c) ∗ stg c cc0_stg3_0 (wi m 1 c) ∗ stg c cc0_stg4_0 (wo m 1 c)
    ∗ stg c cc0_stg5_0 (wi m 2 c) ∗ stg c cc0_stg6_0 (wo m 2 c) ∗ stg c cc0_stg7_0 (outAt m))

theorem before0 (d) : (dats m ρ 0 c).before (0 : Fin 8) t₀ d = xin m c := by unfold Dat.before; rw [if_pos (fetch0_0 t₀)]; rfl
theorem before1 (d) : (dats m ρ 0 c).before (1 : Fin 8) t₀ d = wi m 0 c := by unfold Dat.before; rw [if_pos (fetch0_1 t₀)]; rfl
theorem before2 (d) : (dats m ρ 0 c).before (2 : Fin 8) t₀ d = wo m 0 c := by unfold Dat.before; rw [if_pos (fetch0_2 t₀)]; rfl
theorem before3 (d) : (dats m ρ 0 c).before (3 : Fin 8) t₀ d = wi m 1 c := by unfold Dat.before; rw [if_pos (fetch0_3 t₀)]; rfl
theorem before4 (d) : (dats m ρ 0 c).before (4 : Fin 8) t₀ d = wo m 1 c := by unfold Dat.before; rw [if_pos (fetch0_4 t₀)]; rfl
theorem before5 (d) : (dats m ρ 0 c).before (5 : Fin 8) t₀ d = wi m 2 c := by unfold Dat.before; rw [if_pos (fetch0_5 t₀)]; rfl
theorem before6 (d) : (dats m ρ 0 c).before (6 : Fin 8) t₀ d = wo m 2 c := by unfold Dat.before; rw [if_pos (fetch0_6 t₀)]; rfl

set_option maxRecDepth 50000 in
/-- The whole body on device `c`. -/
theorem sound_body : bodyPre m ρ c ⊢ WP c (body (F := F)) (fun _ => bodyPost m ρ c) := by
  unfold body WP
  rw [wp_deviceId]
  show bodyPre m ρ c ⊢ WP c (shake (tgtB c) >>= fun _ => rest c) (fun _ => bodyPost m ρ c)
  unfold bodyPre Φ₀ start Dat.owesAt Pipeline.owesWithin
  simp only [before0, before1, before2, before3, before4, before5, before6]
  unfold stg scr
  simp only [owns_whole (c : Thread nD τ) cc0_stg7_0]
  rw [show (dats m ρ 0 c).owed t₀.castSucc = O₀ c from rfl]
  iintro ⟨⟨⟨%K, #HR, Hbar, Hout, Hin⟩, ⟨⟨Hx0, Hx03⟩, ⟨Hx1, Hx13⟩, Hr, Hp, ⟨Ho0, Ho⟩⟩⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_shake m K c) $$ [Hbar HO Hx0 Hx1 Hr Ho]
  · isplitr; · iexact HR
    isplitl [Hbar]; · iexact Hbar
    isplitl [HO]; · iexists W; iexact HO
    isplitl [Hx0]; · iexact Hx0
    isplitl [Hx1]; · iexact Hx1
    isplitl [Hr]; · iexact Hr
    iexact Ho
  iintro ⟨Hpa0, Hpa1, Hpr0, Hpo, Hz, HO⟩
  iapply (wp_rest m K c ((dats m ρ 0 c).before (7 : Fin 8) t₀ d7)) $$ [H0 H1 H2 H3 H4 H5 H6 H7 Hout Hin Hpa0 Hpa1 Hpr0 Hpo Hx03 Hx13 Hp Ho0 HO]
  · isplitr; · iexact HR
    isplitl [H0]; · iexact H0
    isplitl [H1 H2]
    · unfold wts
      isplitl [H1]; · iexact H1
      iexact H2
    isplitl [H3 H4]
    · unfold wts
      isplitl [H3]; · iexact H3
      iexact H4
    isplitl [H5 H6]
    · unfold wts
      isplitl [H5]; · iexact H5
      iexact H6
    isplitl [H7]; · iexact H7
    isplitl [Hout]; · iexact Hout
    isplitl [Hin]; · iexact Hin
    isplitl [Hpa0]; · iexact Hpa0
    isplitl [Hpa1]; · iexact Hpa1
    isplitl [Hpr0]; · iexact Hpr0
    isplitl [Hpo]; · iexact Hpo
    isplitl [Hx03]; · iexact Hx03
    isplitl [Hx13]; · iexact Hx13
    isplitl [Hp]; · iexact Hp
    isplitl [Ho0]; · iexact Ho0
    iexact HO
  unfold wts
  iintro ⟨H0, ⟨H1, H2⟩, ⟨H3, H4⟩, ⟨H5, H6⟩, H7, HS, HV, Hscr, HO⟩
  unfold bodyPost Φ₁ Dat.owesAt Pipeline.owesWithin
  rw [show (dats m ρ 0 c).owed t₀.succ = 0 from rfl]
  unfold stg
  rw [owns_whole (c : Thread nD τ) cc0_stg7_0]
  isplitl [Hscr Hz HS HV]
  · isplitl [Hscr]; · iexact Hscr
    isplitl [Hz]; · iexact Hz
    isplitl [HS]; · iexact HS
    iexact HV
  isplitl [HO]
  · unfold ow
    icases HO with ⟨%W', HO⟩
    iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 50000 in
theorem body_obligation : BodyObligation (dats (F := F) m ρ 0 c) (defs₀ (F := F)) 𝒱₀ () Set.univ := fun t => by
  rw [fin_N t, bigSep_W, bigSep_W]
  show bodyPre m ρ c ⊢ WP c (bodyAt0 t₀) (fun _ => bodyPost m ρ c)
  rw [body_eq]
  exact sound_body m ρ c

end Body

/-! ## The cells and the tokens, minted and dealt -/

theorem share_eq (c : Dev nD) (w : Fin cfg0.W) : (dats m ρ 0 c).share w = fullShare := by unfold Dat.share; split <;> rfl

def cells : Finset (GSem nD τ sig) := Finset.univ.map ⟨kcell, kcell_inj⟩

abbrev TK := Fin 3 ⊕ CK
/-- The duties of a device's own cells. -/
def tokOf (x : Dev nD × TK) : GSem nD τ sig × ℕ × Fin 3 := match x with
  | (c, .inl j) => (barCell c, 0, j) | (c, .inr k) => (kcell (c, .inr k), 0, 0)
theorem tokOf_inj : Function.Injective tokOf := by
  rintro ⟨c, j | k⟩ ⟨c', j' | k'⟩ h
  · have h1 := kcell_inj (congrArg Prod.fst h)
    have h2 : j = j' := congrArg (fun x : GSem nD τ sig × ℕ × Fin 3 => x.2.2) h
    have h3 : c = c' := congrArg Prod.fst h1
    rw [h2, h3]
  · exact absurd (congrArg Prod.snd (kcell_inj (congrArg Prod.fst h))) (fun h => by cases h)
  · exact absurd (congrArg Prod.snd (kcell_inj (congrArg Prod.fst h))) (fun h => by cases h)
  · have h1 := kcell_inj (congrArg Prod.fst h)
    have h2 : k = k' := Sum.inr.inj (congrArg Prod.snd h1)
    have h3 : c = c' := congrArg Prod.fst h1
    rw [h2, h3]
def toks : Finset (GSem nD τ sig × ℕ × Fin 3) := Finset.univ.map ⟨tokOf, tokOf_inj⟩

def u₀ : UU := (initOf (Pipeline.cells cfgs cellOf_inj) (Pipeline.launchToks cfgs cellOf_inj), initOf cells toks)

/-- The duty a device pays, for each of its own: the one `mv` names. -/
def mv : Dev nD × TK ≃ Dev nD × TK where
  toFun x := match x with | (c, .inl j) => (add c (1 + j.val), .inl j) | (c, .inr (false, t)) => (c, .inr (false, t)) | (c, .inr (true, t)) => (dst c t, .inr (true, t))
  invFun x := match x with | (c, .inl j) => (add c (3 - j.val), .inl j) | (c, .inr (false, t)) => (c, .inr (false, t)) | (c, .inr (true, t)) => (frm c t, .inr (true, t))
  left_inv x := by
    rcases x with ⟨c, j | ⟨b | b, t⟩⟩
    · exact Prod.ext (add_add' c j) rfl
    · rfl
    · exact Prod.ext (frm_dst c t) rfl
  right_inv x := by
    rcases x with ⟨c, j | ⟨b | b, t⟩⟩
    · exact Prod.ext (add_add c j) rfl
    · rfl
    · exact Prod.ext (dst_frm c t) rfl

def dut (x : Dev nD × TK) : sProp 𝕄 := dutyTok ER (tokOf x).1 (tokOf x).2.1 (tokOf x).2.2

def G (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ bigSep Finset.univ fun k : TK => dut (F := F) (c, k))

/-- Every cell's invariant, and round 0 reached everywhere. -/
def invs (K : Dev nD × (Unit ⊕ CK) → ℕ) : sProp 𝕄 :=
  iprop(bigSep Finset.univ (fun ck => cellInv ER (Rd m) (K ck) (kcell ck)) ∗ bigSep Finset.univ (fun ck => reached ER (kcell ck) 0))
instance invs_persistent (K : Dev nD × (Unit ⊕ CK) → ℕ) : BI.Persistent (invs m K) := by unfold invs; infer_instance

def lin (c : Dev nD) : sProp 𝕄 :=
  iprop((bigSep Finset.univ fun k => atPos ER (kcell (c, k)) 0 ∅ 0) ∗ bigSep Finset.univ fun k : TK => dut (F := F) (mv (c, k)))
def G' (c : Dev nD) : sProp 𝕄 := iprop(∃ K, invs m K ∗ lin c)

theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep toks (fun x => (dutyTok ER x.1 x.2.1 x.2.2 : sProp 𝕄)) = bigSep Finset.univ fun c : Dev nD => bigSep Finset.univ fun k : TK => dut (F := F) (c, k) := by
    unfold toks; rw [bigSep_map, bigSep_univ_prod]; rfl
  iintro HX
  imod (Rounds.fund ER (Rd m) cells toks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems_eq (c : Dev nD) : (Pipeline.ownSems0 (Ix := Unit) (Name := ℕ) (U := UU) (Lvl := ℕ) (Val := Elt F) (τ := τ) osem c : sProp 𝕄)
    = bigSep Finset.univ fun k : CK => semVal (kcell (c, .inr k)) 0 := rfl
theorem barSem_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems_eq, barSem_eq, sepSum, sepU]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun k : TK => dut (F := F) (c, k)) := by
  unfold G
  iintro ⟨Hos, Hus, Hst, Hat, Htok⟩
  ihave Hv := (sems_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem toks_dealt : (bigSep Finset.univ fun c : Dev nD => bigSep Finset.univ fun k : TK => (dut (c, k) : sProp 𝕄))
    = bigSep Finset.univ fun c : Dev nD => bigSep Finset.univ fun k : TK => dut (F := F) (mv (c, k)) := by
  rw [← bigSep_univ_prod (fun x : Dev nD × TK => (dut x : sProp 𝕄)), ← bigSep_univ_prod (fun x : Dev nD × TK => (dut (mv x) : sProp 𝕄))]
  exact bigSep_univ_equiv mv _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × (Unit ⊕ CK) → ℕ) (c : Dev nD) : iprop(invs m K ∗ lin c) ⊢ G' m c := by
  unfold G'
  iintro H
  iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ bigSep Finset.univ fun k : TK => dut (F := F) (c, k)) : sProp 𝕄)
      ⊢ bigSep Finset.univ (G' m) := by
  rw [bigSep_sep', bigSep_sep', ← bigSep_univ_prod (fun ck : Dev nD × (Unit ⊕ CK) => iprop(∃ κ : ℕ, cellInv ER (Rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × (Unit ⊕ CK) => (reached ER (kcell ck) 0 : sProp 𝕄)), toks_dealt]
  classical
  iintro ⟨HI, ⟨Hat, #HR⟩, Htok⟩
  ihave HK := (BI.bigSep_exists_pi Finset.univ (fun (ck : Dev nD × (Unit ⊕ CK)) (κ : ℕ) => (cellInv ER (Rd m) κ (kcell ck) : sProp 𝕄))) $$ HI
  icases HK with ⟨%K, #HI⟩
  iapply (with_persistent (R := invs m K) fun c _ => G'_intro m K c)
  isplitr
  · unfold invs; isplitl; · iexact HI
    iexact HR
  · unfold lin
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem credL (ts : List T) (c : Dev nD) : (Pipeline.launchCred (fun d => owedL d ts) c : sProp 𝕄) ⊢ bigSepL ts fun t => cred (tallyAt (rcvCell c t) () N) := by
  induction ts with
  | nil => exact Entails.of_eq (Pipeline.launchCred_zero c)
  | cons t ts ih =>
    rw [bigSepL_cons, show ∀ A B : sProp 𝕄, BI.sep A B = iprop(A ∗ B) from fun _ _ => rfl]
    show (Pipeline.launchCred (fun d => owedL d ts + tallyAt (rcvCell (dst d t) t) () N) c : sProp 𝕄) ⊢ _
    rw [Pipeline.launchCred_add]
    iintro ⟨H1, H2⟩
    isplitl [H2]
    · iapply (Pipeline.launchCred_tallyAt (osem (true, t)) (fun d => dst d t) (fun d => frm d t) (fun d => dst_frm d t) (fun d => frm_dst d t) () N c)
      iexact H2
    iapply ih; iexact H1

theorem cred_bar (j : Fin 3) (c : Dev nD) : (Pipeline.launchCred (fun d => tallyAt (barCell (add d (1 + j.val))) () 1) c : sProp 𝕄) ⊢ cred (tallyAt (barCell c) () 1) :=
  Pipeline.launchCred_tallyAt (.reg barS) (fun d => add d (1 + j.val)) (fun d => add d (3 - j.val)) (fun d => add_add d j) (fun d => add_add' d j) () 1 c

theorem creds (c : Dev nD) : (Pipeline.launchCred O₀ c : sProp 𝕄) ⊢ iprop(cred (tallyAt (barCell c) () 3) ∗ allT fun t => cred (tallyAt (rcvCell c t) () N)) := by
  have h : (Pipeline.launchCred O₀ c : sProp 𝕄) = iprop(((Pipeline.launchCred (fun d => owedL d ordL) c
      ∗ Pipeline.launchCred (fun d => tallyAt (barCell (add d 3)) () 1) c) ∗ Pipeline.launchCred (fun d => tallyAt (barCell (add d 2)) () 1) c)
      ∗ Pipeline.launchCred (fun d => tallyAt (barCell (add d 1)) () 1) c) := by
    rw [← Pipeline.launchCred_add, ← Pipeline.launchCred_add, ← Pipeline.launchCred_add]; rfl
  have h3 : (tallyAt (barCell c) () 3 : CellTallies nD τ sig Unit) = tallyAt (barCell c) () 1 + (tallyAt (barCell c) () 1 + tallyAt (barCell c) () 1) := by
    rw [tallyAt_add, tallyAt_add]
  rw [h, ← sepT, bigSep_univ_eq_bigSepL ordL (by decide) (by decide), h3]
  iintro ⟨⟨⟨H, H3⟩, H2⟩, H1⟩
  isplitl [H3 H2 H1]
  · iapply (cred_add _ _).2
    isplitl [H1]; · iapply (cred_bar 0 c); iexact H1
    iapply (cred_add _ _).2
    isplitl [H2]; · iapply (cred_bar 1 c); iexact H2
    iapply (cred_bar 2 c); iexact H3
  iapply (credL ordL c); iexact H

/-! ## The launch theorem's side conditions -/

theorem lin_split (c : Dev nD) : lin c ⊢ iprop((atPos ER (barCell c) 0 ∅ 0 ∗ tri (fun j => dutyTok ER (barCell (add c (1 + j.val))) 0 j))
    ∗ (allT (fun t => atPos ER (sndCell c t) 0 ∅ 0) ∗ allT (fun t => dutyTok ER (sndCell c t) 0 0) ∗ allT (fun t => dutyTok ER (rcvCell (dst c t) t) 0 0))
    ∗ (allT (fun t => atPos ER (rcvCell c t) 0 ∅ 0) : sProp 𝕄)) := by
  unfold lin
  rw [sepSum, sepSum, sepU, sepCK, sepCK, sep3]
  iintro ⟨⟨Hb, Hs, Hv⟩, Hd, Hds, Hdv⟩
  isplitl [Hb Hd]
  · isplitl [Hb]; · iexact Hb
    iexact Hd
  isplitl [Hs Hds Hdv]
  · isplitl [Hs]; · iexact Hs
    isplitl [Hds]; · iexact Hds
    iexact Hdv
  iexact Hv

theorem outs_intro (c : Dev nD) : iprop(allT (fun t => atPos ER (sndCell c t) 0 ∅ 0) ∗ allT (fun t => dutyTok ER (sndCell c t) 0 0) ∗ allT (fun t => dutyTok ER (rcvCell (dst c t) t) 0 0))
    ⊢ (allT (outTok c) : sProp 𝕄) := by
  rw [← sepT, ← sepT, ← sepT, ← sepT]
  unfold outTok
  rw [bigSep_sep', bigSep_sep']
  iintro ⟨H1, H2, H3⟩
  isplitl [H2]; · iexact H2
  isplitl [H3]; · iexact H3
  iexact H1
theorem ins_intro (c : Dev nD) : iprop(allT (fun t => atPos ER (rcvCell c t) 0 ∅ 0) ∗ allT (fun t => cred (tallyAt (rcvCell c t) () N)))
    ⊢ (allT (inTok c) : sProp 𝕄) := by
  rw [← sepT, ← sepT, ← sepT]
  unfold inTok
  rw [bigSep_sep']
  iintro ⟨H1, H2⟩
  isplitl [H2]; · iexact H2
  iexact H1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' invs
  iintro ⟨-, #Hlev, Hcr, -, ⟨%K, ⟨#HI, #HRe⟩, Hl⟩⟩
  ihave Hc := (creds (F := F) c) $$ Hcr
  icases Hc with ⟨Hcb, Hcv⟩
  ihave Hl := (lin_split (F := F) c) $$ Hl
  icases Hl with ⟨⟨Hb, Hd⟩, Ho, Hv⟩
  imodintro
  unfold start
  isplitl
  · iexists K
    isplitr
    · unfold records
      isplitr; · iexact HI
      isplitr; · iexact HRe
      iexact Hlev
    isplitl [Hb Hd Hcb]
    · unfold barTok
      isplitl [Hd]; · iexact Hd
      isplitl [Hb]; · iexact Hb
      iexact Hcb
    isplitl [Ho]; · iapply (outs_intro (F := F) c); iexact Ho
    iapply (ins_intro (F := F) c)
    isplitl [Hv]; · iexact Hv
    iexact Hcv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [← scr_eq]
  unfold scrW
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq, sepCK]
  unfold Φ₁
  rw [← scr_eq]
  unfold scrW
  iintro ⟨Hr, Hb, HS, HV⟩
  isplitl [Hb]; · iexact Hb
  isplitl [HS HV]
  · isplitl [HS]; · iexact HS
    iexact HV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c w s _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- Every execution ends, with every window's array at its computed contents and every counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mlp

end
-- ==== Proof.KernelIdeal.Ends.lean ====
/-
How every run ends: each device's result array holds the summed rows, its arguments what they held, every counter zero.
-/
module

public import proofs.«01_k».proof.Proof.KernelIdeal.Run
public import Idealize.ShloMosaic.Lib.Pipeline.ValueKit

@[expose] public section

noncomputable section

namespace Cert.KernelIdeal.Mlp

open Cert.KernelIdeal Cert.KernelIdeal.Gen

open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The result array ends at what the body leaves in its staging buffer. -/
theorem final_out (c : Dev nD) : finalA m ρ c (7 : Fin 8) = outAt m := by
  refine (dats m ρ 0 c).arrAt_eq_of_after_last (7 : Fin 8) t₀ (by decide +kernel) _ fun j => ?_
  blk_simp
  rfl

theorem final_in (c : Dev nD) (w : Fin cfg0.W) (h : (cfg0.win w).isOut = false) : finalA m ρ c w = m ((cfg0.win w).arr.view.loc (c : Thread nD τ)) :=
  (dats m ρ 0 c).arrAt_in w h _

/-- What a run leaves. -/
theorem run_ends : θ_run defs (onTc (τ := τ) (main (F := F))) ⟨m, fun _ => 0, ρ⟩ (fun r => (∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_mono (run_arrays m ρ) fun r h => ⟨fun c => ⟨(h.1 c (7 : Fin 8)).trans (final_out m ρ c), (h.1 c (0 : Fin 8)).trans (final_in m ρ c (0 : Fin 8) rfl),
    (h.1 c (1 : Fin 8)).trans (final_in m ρ c (1 : Fin 8) rfl), (h.1 c (3 : Fin 8)).trans (final_in m ρ c (3 : Fin 8) rfl), (h.1 c (5 : Fin 8)).trans (final_in m ρ c (5 : Fin 8) rfl),
    (h.1 c (2 : Fin 8)).trans (final_in m ρ c (2 : Fin 8) rfl), (h.1 c (4 : Fin 8)).trans (final_in m ρ c (4 : Fin 8) rfl), (h.1 c (6 : Fin 8)).trans (final_in m ρ c (6 : Fin 8) rfl)⟩, h.2⟩

end Cert.KernelIdeal.Mlp

end
-- ==== Proof.KernelIdeal.Value.lean ====
/-
The value: over exact arithmetic the summed blocks are the blocks of the plain three-layer product. A contraction over
4096 is the sum of the four devices' contractions over 1024, and the order in which a device adds them does not matter.
-/
module

public import proofs.«01_k».proof.Proof.KernelIdeal.Ends
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Mlp

open Cert.KernelIdeal Cert.KernelIdeal.Gen

open Idealize.ShloMosaic hiding ix2 eq_ix2
open Idealize.ShloMosaic.TcCoe
open Idealize.ShloMosaic.ValueIdx
open scoped BigOperators

/-! ## A window's block is its array -/

section Blocks
variable {F : FTy → Type} [FloatOps F] (m : (ℓ : Loc nD τ sig) → Buf (Elt F) ℓ)

theorem xin_eq (c : Dev nD) : xin m c = m ((c : Thread nD τ).loc main_arg0) := by
  funext j
  exact congrArg _ (funext fun a => Fin.ext (win0_0.rect_emb_val_of_index_zero (0 : Fin 1) a (by revert a; decide +kernel) j))
theorem wi_eq0 (c : Dev nD) : wi m 0 c = m ((c : Thread nD τ).loc main_arg1) := by
  funext j
  exact congrArg _ (funext fun a => Fin.ext (win0_1.rect_emb_val_of_index_zero (0 : Fin 1) a (by revert a; decide +kernel) j))
theorem wi_eq1 (c : Dev nD) : wi m 1 c = m ((c : Thread nD τ).loc main_arg2) := by
  funext j
  exact congrArg _ (funext fun a => Fin.ext (win0_3.rect_emb_val_of_index_zero (0 : Fin 1) a (by revert a; decide +kernel) j))
theorem wi_eq2 (c : Dev nD) : wi m 2 c = m ((c : Thread nD τ).loc main_arg3) := by
  funext j
  exact congrArg _ (funext fun a => Fin.ext (win0_5.rect_emb_val_of_index_zero (0 : Fin 1) a (by revert a; decide +kernel) j))
theorem wo_eq0 (c : Dev nD) : wo m 0 c = m ((c : Thread nD τ).loc main_arg4) := by
  funext j
  exact congrArg _ (funext fun a => Fin.ext (win0_2.rect_emb_val_of_index_zero (0 : Fin 1) a (by revert a; decide +kernel) j))
theorem wo_eq1 (c : Dev nD) : wo m 1 c = m ((c : Thread nD τ).loc main_arg5) := by
  funext j
  exact congrArg _ (funext fun a => Fin.ext (win0_4.rect_emb_val_of_index_zero (0 : Fin 1) a (by revert a; decide +kernel) j))
theorem wo_eq2 (c : Dev nD) : wo m 2 c = m ((c : Thread nD τ).loc main_arg6) := by
  funext j
  exact congrArg _ (funext fun a => Fin.ext (win0_6.rect_emb_val_of_index_zero (0 : Fin 1) a (by revert a; decide +kernel) j))
end Blocks

/-! ## The reference's layer and its blocks -/

abbrev RX := FVec Ideal ⟨2, ![256, 512]⟩ .f32
abbrev RI := FVec Ideal ⟨2, ![512, 4096]⟩ .f32
abbrev RO := FVec Ideal ⟨2, ![4096, 512]⟩ .f32

def zeroH : FVec Ideal Cert.ReferenceIdeal.S256x4096 .f32 :=
  broadcastInDim Cert.ReferenceIdeal.S256x4096 ![] Cert.ReferenceIdeal.Facts₀.bcast_S_S256x4096 (constant Cert.ReferenceIdeal.S_ .f32 0x00000000#32)

/-- One layer of the reference. -/
def refLayer (X : RX) (W : RI) (U : RO) : RX :=
  Host.dotGeneral Cert.ReferenceIdeal.dot_S256x4096_S4096x512_S256x512_1_0_0_1_n_n none
    (maximumf (Host.dotGeneral Cert.ReferenceIdeal.dot_S256x512_S512x4096_S256x4096_1_0_0_1_n_n none X W) zeroH) U

abbrev rows (c : Dev nD) (X : RX) : FVec Ideal ⟨2, ![64, 512]⟩ .f32 := Layout.block ⟨2, ![64, 512]⟩ ⟨2, ![256, 512]⟩ 0 4 c X
abbrev wcols (c : Dev nD) (W : RI) : FVec Ideal ⟨2, ![512, 1024]⟩ .f32 := Layout.block ⟨2, ![512, 1024]⟩ ⟨2, ![512, 4096]⟩ 1 4 c W
abbrev wrows (c : Dev nD) (U : RO) : FVec Ideal ⟨2, ![1024, 512]⟩ .f32 := Layout.block ⟨2, ![1024, 512]⟩ ⟨2, ![4096, 512]⟩ 0 4 c U

theorem rows_apply (c : Dev nD) (X : RX) (r : Fin 64) (n : Fin 512) :
    rows c X (ix2 r n) = X (ix2 ⟨c.val * 64 + r.val, by have : c.val < 4 := c.isLt; have := r.isLt; omega⟩ n) :=
  congrArg X (by funext a; match a with | ⟨0, _⟩ => rfl | ⟨1, _⟩ => rfl)
theorem wcols_apply (c : Dev nD) (W : RI) (j : Fin 512) (k : Fin 1024) :
    wcols c W (ix2 j k) = W (ix2 j ⟨c.val * 1024 + k.val, by have : c.val < 4 := c.isLt; have := k.isLt; omega⟩) :=
  congrArg W (by funext a; match a with | ⟨0, _⟩ => rfl | ⟨1, _⟩ => rfl)
theorem wrows_apply (c : Dev nD) (U : RO) (k : Fin 1024) (n : Fin 512) :
    wrows c U (ix2 k n) = U (ix2 ⟨c.val * 1024 + k.val, by have : c.val < 4 := c.isLt; have := k.isLt; omega⟩ n) :=
  congrArg U (by funext a; match a with | ⟨0, _⟩ => rfl | ⟨1, _⟩ => rfl)

/-- The nonnegative part, as both programs take it. -/
def relu (x : Ideal .f32) : Ideal .f32 := FloatOps.maximumf x (FloatOps.ofBits .f32 0x00000000#32)

theorem ref_apply (X : RX) (W : RI) (U : RO) (r : Fin 256) (n : Fin 512) :
    refLayer X W U (ix2 r n) = ∑ k : Fin 4096, relu (∑ j : Fin 512, X (ix2 r j) * W (ix2 j k)) * U (ix2 k n) := by
  unfold refLayer
  refine (StackMember.dotGeneral_plain_apply none _ U r n).trans (Finset.sum_congr rfl fun k _ => ?_)
  refine congrArg (· * U (ix2 k n)) ?_
  show FloatOps.maximumf (Host.dotGeneral (DotDims.plain 256 512 4096) none X W (ix2 r k)) _ = _
  rw [StackMember.dotGeneral_plain_apply]
  rfl

theorem zero_word : (FloatOps.ofBits .f32 0x00000000#32 : Ideal .f32) = 0 := Ideal.ofBits_zero_f32

theorem pv_apply (X : B64 Ideal) (w : FVec Ideal S512x1024 .f32) (u : FVec Ideal S1024x512 .f32) (r : Fin 64) (n : Fin 512) :
    pv X w u (ix2 r n) = ∑ k : Fin 1024, relu (∑ j : Fin 512, X (ix2 r j) * w (ix2 j k)) * u (ix2 k n) := by
  unfold pv k0_pay5
  rw [shapeCast_shapeCast, shapeCast_self, shapeCast_self]
  refine (Ideal.matmul_plain_apply none _ u _ r n).trans ?_
  show FloatOps.ofBits .f32 0x00000000#32 + _ = _
  rw [zero_word, zero_add]
  refine Finset.sum_congr rfl fun k _ => congrArg (· * u (ix2 k n)) ?_
  show FloatOps.maximumf (FloatOps.matmul (DotDims.plain 64 512 1024) none X w _ (ix2 r k)) _ = _
  rw [Ideal.matmul_plain_apply]
  show FloatOps.maximumf (FloatOps.ofBits .f32 0x00000000#32 + _) _ = _
  unfold relu
  rw [zero_word, zero_add]
  rfl

/-- A sum over 4096 is the sum of four sums over 1024. -/
theorem sum_blocks {M : Type} [AddCommMonoid M] (f : Fin 4096 → M) :
    ∑ k, f k = ∑ d : Dev nD, ∑ k : Fin 1024, f ⟨d.val * 1024 + k.val, by have : d.val < 4 := d.isLt; have := k.isLt; omega⟩ := by
  rw [← Fintype.sum_prod_type' (f := fun (d : Dev nD) (k : Fin 1024) => f ⟨d.val * 1024 + k.val, by have : d.val < 4 := d.isLt; have := k.isLt; omega⟩)]
  rw [← Equiv.sum_comp (finProdFinEquiv (m := 4) (n := 1024))]
  refine Finset.sum_congr rfl fun x _ => congrArg f (Fin.ext ?_)
  show x.2.val + 1024 * x.1.val = x.1.val * 1024 + x.2.val
  omega

/-- The four devices in the order device `c` adds their parts. -/
theorem sum_devs {M : Type} [AddCommMonoid M] (f : Dev nD → M) (c : Dev nD) : f c + f (add c 3) + f (add c 2) + f (add c 1) = ∑ d, f d := by
  have hu : ∀ c : Dev nD, (Finset.univ : Finset (Dev nD)).val = (([c, add c 3, add c 2, add c 1] : List (Dev nD)) : Multiset (Dev nD)) := by decide
  show _ = (Multiset.map f (Finset.univ : Finset (Dev nD)).val).sum
  rw [hu c]
  simp [add_assoc]

/-- One layer: the parts of device `c`'s block, summed, are that block of the reference's layer. -/
theorem layer_at (m : (ℓ : Loc nD τ sig) → Buf (Elt Ideal) ℓ) (l : Fin 3) (X : RX) (W : RI) (U : RO)
    (hW : ∀ d, wi m l d = wcols d W) (hU : ∀ d, wo m l d = wrows d U) (c : Dev nD) (r : Fin 64) (n : Fin 512) :
    nextX m l (fun d => rows d X) c (ix2 r n) = rows c (refLayer X W U) (ix2 r n) := by
  rw [rows_apply, ref_apply, sum_blocks]
  have hp (d : Dev nD) : pv (rows c X) (wi m l d) (wo m l d) (ix2 r n)
      = ∑ k : Fin 1024, relu (∑ j : Fin 512, X (ix2 ⟨c.val * 64 + r.val, by have : c.val < 4 := c.isLt; have := r.isLt; omega⟩ j)
          * W (ix2 j ⟨d.val * 1024 + k.val, by have : d.val < 4 := d.isLt; have := k.isLt; omega⟩)) * U (ix2 ⟨d.val * 1024 + k.val, by have : d.val < 4 := d.isLt; have := k.isLt; omega⟩ n) := by
    rw [pv_apply, hW, hU]
    simp only [rows_apply, wcols_apply, wrows_apply]
  rw [← sum_devs _ c, ← hp c, ← hp (add c 3), ← hp (add c 2), ← hp (add c 1)]
  rfl

theorem layer_eq (m : (ℓ : Loc nD τ sig) → Buf (Elt Ideal) ℓ) (l : Fin 3) (X : RX) (W : RI) (U : RO)
    (hW : ∀ d, wi m l d = wcols d W) (hU : ∀ d, wo m l d = wrows d U) (c : Dev nD) :
    nextX m l (fun d => rows d X) c = rows c (refLayer X W U) :=
  funext fun i => (congrArg _ (eq_ix2 (n0 := 64) (n1 := 512) i)).trans
    ((layer_at m l X W U hW hU c (i 0) (i 1)).trans (congrArg (rows c (refLayer X W U)) (eq_ix2 (n0 := 64) (n1 := 512) i).symm))

/-- The reference's result. -/
def refOut (A0 : RX) (A1 A2 A3 : RI) (A4 A5 A6 : RO) : RX := refLayer (refLayer (refLayer A0 A1 A4) A2 A5) A3 A6

/-- The blocks after the last layer are the blocks of the reference's result. -/
theorem X3_eq (m : (ℓ : Loc nD τ sig) → Buf (Elt Ideal) ℓ) (A0 : RX) (A1 A2 A3 : RI) (A4 A5 A6 : RO)
    (h : ∀ c : Dev nD, m ((c.tc : Thread nD τ).loc main_arg0) = rows c A0 ∧ m ((c.tc : Thread nD τ).loc main_arg1) = wcols c A1
      ∧ m ((c.tc : Thread nD τ).loc main_arg2) = wcols c A2 ∧ m ((c.tc : Thread nD τ).loc main_arg3) = wcols c A3
      ∧ m ((c.tc : Thread nD τ).loc main_arg4) = wrows c A4 ∧ m ((c.tc : Thread nD τ).loc main_arg5) = wrows c A5
      ∧ m ((c.tc : Thread nD τ).loc main_arg6) = wrows c A6) :
    X3 m = fun c => rows c (refOut A0 A1 A2 A3 A4 A5 A6) := by
  have h0 : xin m = fun c => rows c A0 := funext fun c => (xin_eq m c).trans (h c).1
  have h1 := funext fun c => layer_eq m 0 A0 A1 A4 (fun d => (wi_eq0 m d).trans (h d).2.1) (fun d => (wo_eq0 m d).trans (h d).2.2.2.2.1) c
  have h2 := funext fun c => layer_eq m 1 (refLayer A0 A1 A4) A2 A5 (fun d => (wi_eq1 m d).trans (h d).2.2.1) (fun d => (wo_eq1 m d).trans (h d).2.2.2.2.2.1) c
  have h3 := funext fun c => layer_eq m 2 (refLayer (refLayer A0 A1 A4) A2 A5) A3 A6 (fun d => (wi_eq2 m d).trans (h d).2.2.2.1) (fun d => (wo_eq2 m d).trans (h d).2.2.2.2.2.2) c
  show nextX m 2 (nextX m 1 (nextX m 0 (xin m))) = _
  rw [h0, h1, h2, h3]
  rfl

/-- Every device's result is the reference's. -/
theorem out_eq (m : (ℓ : Loc nD τ sig) → Buf (Elt Ideal) ℓ) (A0 : RX) (A1 A2 A3 : RI) (A4 A5 A6 : RO)
    (h : ∀ c : Dev nD, m ((c.tc : Thread nD τ).loc main_arg0) = rows c A0 ∧ m ((c.tc : Thread nD τ).loc main_arg1) = wcols c A1
      ∧ m ((c.tc : Thread nD τ).loc main_arg2) = wcols c A2 ∧ m ((c.tc : Thread nD τ).loc main_arg3) = wcols c A3
      ∧ m ((c.tc : Thread nD τ).loc main_arg4) = wrows c A4 ∧ m ((c.tc : Thread nD τ).loc main_arg5) = wrows c A5
      ∧ m ((c.tc : Thread nD τ).loc main_arg6) = wrows c A6) :
    outAt m = refOut A0 A1 A2 A3 A4 A5 A6 := by
  funext i
  refine (congrFun (congrFun (X3_eq m A0 A1 A2 A3 A4 A5 A6 h) (rowDev i)) (rowIn i)).trans
    ((rows_apply (rowDev i) (refOut A0 A1 A2 A3 A4 A5 A6) ⟨(i 0).val % 64, Nat.mod_lt _ (by decide)⟩ (i 1)).trans
      (congrArg (refOut A0 A1 A2 A3 A4 A5 A6) ((congrArg (fun a => ix2 (n0 := 256) (n1 := 512) a (i 1)) (Fin.ext ?_)).trans (eq_ix2 (n0 := 256) (n1 := 512) i).symm)))
  show (i 0).val / 64 * 64 + (i 0).val % 64 = (i 0).val
  omega

end Cert.KernelIdeal.Mlp

end
-- ==== Proof.lean ====
/-
The proof of the certificate's claims about the three-layer product over four devices: both kernels run on every memory
and end with their arguments unchanged and every counter at zero; the reference likewise; and over exact arithmetic every
device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.KernelIdeal.Value
public import Idealize.ShloMosaic.Adequacy
public import Idealize.ShloMosaic.Init

@[expose] public section

noncomputable section

namespace Cert.Proof

open Idealize.ShloMosaic Idealize.SL.Sem

theorem quiescent_Kernel : Cert.quiescent_Kernel (hKernel := Cert.Kernel.Gen.facts) := fun m g _ =>
  θ_run_mono (Cert.Kernel.Mlp.run_ends m g) fun _ h => ⟨fun c => (h.1 c).2, h.2⟩

theorem quiescent_KernelIdeal : Cert.quiescent_KernelIdeal (hKernelIdeal := Cert.KernelIdeal.Gen.facts) := fun m g _ =>
  θ_run_mono (Cert.KernelIdeal.Mlp.run_ends m g) fun _ h => ⟨fun c => (h.1 c).2, h.2⟩

/-- The reference has no counter at all. -/
theorem no_sem {α : Type} (z : α) (f : GSem Cert.ReferenceIdeal.nD Cert.ReferenceIdeal.τ Cert.ReferenceIdeal.sig → α) : f = fun _ => z :=
  funext fun g => by
    obtain ⟨t, s⟩ := g
    cases s with
    | reg s => exact s.elim0
    | dma s => exact s.elim0

theorem quiescent_ReferenceIdeal : Cert.quiescent_ReferenceIdeal (hReferenceIdeal := Cert.ReferenceIdeal.Gen.facts) := fun m g _ =>
  θ_run_mono (Cert.ReferenceIdeal.Value.run m g) fun r h => ⟨fun c => (h c).2, no_sem _ _⟩

theorem algebraic : Cert.algebraic_KernelIdeal_ReferenceIdeal (hKernelIdeal := Cert.KernelIdeal.Gen.facts) (hReferenceIdeal := Cert.ReferenceIdeal.Gen.facts) :=
  fun m g m' g' _ h => ⟨_,
    θ_run_mono (Cert.KernelIdeal.Mlp.run_ends m g) fun _ hr c => ⟨(hr.1 c).1.trans (Cert.KernelIdeal.Mlp.out_eq m _ _ _ _ _ _ _ h), (hr.1 c).2⟩,
    θ_run_mono (Cert.ReferenceIdeal.Value.run m' g') fun _ hr => hr 0⟩

theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
